-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![2048, 1]⟩ ⟨2, ![8192, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v161) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S2048x1024 : Shape := ⟨2, ![2048, 1024]⟩
abbrev S16x512x1024 : Shape := ⟨3, ![16, 512, 1024]⟩
abbrev S4x8x128 : Shape := ⟨3, ![4, 8, 128]⟩
abbrev S3 : Shape := ⟨1, ![3]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S1x1x128 : Shape := ⟨3, ![1, 1, 128]⟩
abbrev S1x8x128 : Shape := ⟨3, ![1, 8, 128]⟩
abbrev S1 : Shape := ⟨1, ![1]⟩
abbrev S2x512x1024 : Shape := ⟨3, ![2, 512, 1024]⟩
abbrev S1x512x1024 : Shape := ⟨3, ![1, 512, 1024]⟩
abbrev S512x1024 : Shape := ⟨2, ![512, 1024]⟩
abbrev S4x1x128 : Shape := ⟨3, ![4, 1, 128]⟩
abbrev S2048 : Shape := ⟨1, ![2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x16, .f32⟩
  | .hbm, ⟨2, _⟩ => ⟨S2048x1, .i32⟩
  | .hbm, ⟨3, _⟩ => ⟨S4x512x1024, .f32⟩
  | .hbm, ⟨4, _⟩ => ⟨S2048x1024, .f32⟩
  | .local _ .vmem, ⟨0, _⟩ => ⟨S2048x512, .f32⟩
  | .local _ .vmem, ⟨1, _⟩ => ⟨S2048x1, .i32⟩
  | .local _ .vmem, ⟨2, _⟩ => ⟨S4x512x1024, .f32⟩
  | .local _ .vmem, ⟨3, _⟩ => ⟨S2048x1024, .f32⟩
  | .local _ .vmem, ⟨4, _⟩ => ⟨S16x512x1024, .bf16⟩
  | .local _ .vmem, ⟨5, _⟩ => ⟨S4x8x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v27 : Index := Scalar.indexCast v2
  let c0_13 : Index := 0#32
  let c0_14 : Index := 0#32
  ![v27.toNat, 0, 0]
def k0_off2 (d0 : Dev nD) (c0_i32_15 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v31 : BitVec 32 := Scalar.subi v2 c0_i32_15
  let c4_i32_16 : BitVec 32 := 4#32
  let v32 : BitVec 32 := Scalar.addi v31 c4_i32_16
  let c4_i32_17 : BitVec 32 := 4#32
  let v33 : BitVec 32 := Scalar.remsi v32 c4_i32_17
  let c0_i32_40 : BitVec 32 := 0#32
  let c0_i32_41 : BitVec 32 := 0#32
  ![v33.toNat, 0, 0]
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_38 : BitVec 32 := 1#32
  let v52 : BitVec 32 := Scalar.muli v7 c1_i32_38
  let v53 : BitVec 32 := Scalar.addi c0_i32_39 v52
  v53.toNat
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_52 : BitVec 32 := 1#32
  let v66 : BitVec 32 := Scalar.muli v7 c1_i32_52
  let v67 : BitVec 32 := Scalar.addi c0_i32_53 v66
  v67.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_61 : BitVec 32 := 1#32
  let v74 : BitVec 32 := Scalar.muli v5 c1_i32_61
  let v75 : BitVec 32 := Scalar.addi c0_i32_62 v74
  v75.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_70 : BitVec 32 := 1#32
  let v82 : BitVec 32 := Scalar.muli v7 c1_i32_70
  let v83 : BitVec 32 := Scalar.addi c0_i32_71 v82
  v83.toNat
def k0_dev7 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_79 : BitVec 32 := 1#32
  let v90 : BitVec 32 := Scalar.muli v5 c1_i32_79
  let v91 : BitVec 32 := Scalar.addi c0_i32_80 v90
  v91.toNat
def k0_off3 (d0 : Dev nD) (c0_i32_18 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v34 : BitVec 32 := Scalar.subi v2 c0_i32_18
  let c1_i32_19 : BitVec 32 := 1#32
  let v35 : BitVec 32 := Scalar.subi v34 c1_i32_19
  let c4_i32_20 : BitVec 32 := 4#32
  let v36 : BitVec 32 := Scalar.addi v35 c4_i32_20
  let c4_i32_21 : BitVec 32 := 4#32
  let v37 : BitVec 32 := Scalar.remsi v36 c4_i32_21
  let c0_i32_149 : BitVec 32 := 0#32
  let c0_i32_150 : BitVec 32 := 0#32
  ![v37.toNat, 0, 0]
def k0_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_155 : BitVec 32 := 1#32
  let v233 : BitVec 32 := Scalar.muli v7 c1_i32_155
  let v234 : BitVec 32 := Scalar.addi c0_i32_156 v233
  v234.toNat
def k0_dev9 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_173 : BitVec 32 := 1#32
  let v247 : BitVec 32 := Scalar.muli v7 c1_i32_173
  let v248 : BitVec 32 := Scalar.addi c0_i32_174 v247
  v248.toNat
def k0_dev10 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_193 : BitVec 32 := 1#32
  let v261 : BitVec 32 := Scalar.muli v5 c1_i32_193
  let v262 : BitVec 32 := Scalar.addi c0_i32_194 v261
  v262.toNat
def k0_dev11 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_241 : BitVec 32 := 1#32
  let v334 : BitVec 32 := Scalar.muli v7 c1_i32_241
  let v335 : BitVec 32 := Scalar.addi c0_i32_242 v334
  v335.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x512 : Shape := ⟨2, ![8192, 512]⟩
abbrev S512x16 : Shape := ⟨2, ![512, 16]⟩
abbrev S8192x1 : Shape := ⟨2, ![8192, 1]⟩
abbrev S16x512x1024 : Shape := ⟨3, ![16, 512, 1024]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩
abbrev S8192x1024 : Shape := ⟨2, ![8192, 1024]⟩
abbrev S1x512x1024 : Shape := ⟨3, ![1, 512, 1024]⟩
abbrev S512x1024 : Shape := ⟨2, ![512, 1024]⟩

abbrev nBuf : Space → Nat
  | .hbm => 249
  | .vmem => 0
  | .smem => 0
  | _ => 0

abbrev hbmTy0_0 (i : Nat) : BufTy := match i % 128 with
  | 0 => ⟨S8192x512, .f32⟩
  | 1 => ⟨S512x16, .f32⟩
  | 2 => ⟨S8192x1, .i32⟩
  | 3 => ⟨S16x512x1024, .f32⟩
  | 4 => ⟨S8192, .i32⟩
  | 5 => ⟨S8192, .i32⟩
  | 6 => ⟨S1x8192, .i32⟩
  | 7 => ⟨S8192x1, .i32⟩
  | 8 => ⟨S8192x8192, .i32⟩
  | 9 => ⟨S8192x8192, .i32⟩
  | 10 => ⟨S8192x8192, .i1⟩
  | 11 => ⟨S1x8192, .i32⟩
  | 12 => ⟨S8192x1, .i32⟩
  | 13 => ⟨S8192x8192, .i32⟩
  | 14 => ⟨S8192x8192, .i32⟩
  | 15 => ⟨S8192x8192, .i1⟩
  | 16 => ⟨S8192x8192, .i1⟩
  | 17 => ⟨S8192x8192, .i32⟩
  | 18 => ⟨S_, .i32⟩
  | 19 => ⟨S8192, .i32⟩
  | 20 => ⟨S_, .i32⟩
  | 21 => ⟨S8192, .i32⟩
  | 22 => ⟨S8192, .i1⟩
  | 23 => ⟨S_, .f32⟩
  | 24 => ⟨S8192x1024, .f32⟩
  | 25 => ⟨S_, .i32⟩
  | 26 => ⟨S8192, .i32⟩
  | 27 => ⟨S8192, .i1⟩
  | 28 => ⟨S8192, .i1⟩
  | 29 => ⟨S8192x1, .i1⟩
  | 30 => ⟨S1x512x1024, .f32⟩
  | 31 => ⟨S512x1024, .f32⟩
  | 32 => ⟨S8192x1024, .f32⟩
  | 33 => ⟨S_, .f32⟩
  | 34 => ⟨S_, .f32⟩
  | 35 => ⟨S8192x1024, .i1⟩
  | 36 => ⟨S8192x1024, .f32⟩
  | 37 => ⟨S8192x1024, .f32⟩
  | 38 => ⟨S8192x1024, .f32⟩
  | 39 => ⟨S_, .i32⟩
  | 40 => ⟨S8192, .i32⟩
  | 41 => ⟨S8192, .i1⟩
  | 42 => ⟨S8192, .i1⟩
  | 43 => ⟨S8192x1, .i1⟩
  | 44 => ⟨S1x512x1024, .f32⟩
  | 45 => ⟨S512x1024, .f32⟩
  | 46 => ⟨S8192x1024, .f32⟩
  | 47 => ⟨S_, .f32⟩
  | 48 => ⟨S_, .f32⟩
  | 49 => ⟨S8192x1024, .i1⟩
  | 50 => ⟨S8192x1024, .f32⟩
  | 51 => ⟨S8192x1024, .f32⟩
  | 52 => ⟨S8192x1024, .f32⟩
  | 53 => ⟨S_, .i32⟩
  | 54 => ⟨S8192, .i32⟩
  | 55 => ⟨S8192, .i1⟩
  | 56 => ⟨S8192, .i1⟩
  | 57 => ⟨S8192x1, .i1⟩
  | 58 => ⟨S1x512x1024, .f32⟩
  | 59 => ⟨S512x1024, .f32⟩
  | 60 => ⟨S8192x1024, .f32⟩
  | 61 => ⟨S_, .f32⟩
  | 62 => ⟨S_, .f32⟩
  | 63 => ⟨S8192x1024, .i1⟩
  | 64 => ⟨S8192x1024, .f32⟩
  | 65 => ⟨S8192x1024, .f32⟩
  | 66 => ⟨S8192x1024, .f32⟩
  | 67 => ⟨S_, .i32⟩
  | 68 => ⟨S8192, .i32⟩
  | 69 => ⟨S8192, .i1⟩
  | 70 => ⟨S8192, .i1⟩
  | 71 => ⟨S8192x1, .i1⟩
  | 72 => ⟨S1x512x1024, .f32⟩
  | 73 => ⟨S512x1024, .f32⟩
  | 74 => ⟨S8192x1024, .f32⟩
  | 75 => ⟨S_, .f32⟩
  | 76 => ⟨S_, .f32⟩
  | 77 => ⟨S8192x1024, .i1⟩
  | 78 => ⟨S8192x1024, .f32⟩
  | 79 => ⟨S8192x1024, .f32⟩
  | 80 => ⟨S8192x1024, .f32⟩
  | 81 => ⟨S_, .i32⟩
  | 82 => ⟨S8192, .i32⟩
  | 83 => ⟨S8192, .i1⟩
  | 84 => ⟨S8192, .i1⟩
  | 85 => ⟨S8192x1, .i1⟩
  | 86 => ⟨S1x512x1024, .f32⟩
  | 87 => ⟨S512x1024, .f32⟩
  | 88 => ⟨S8192x1024, .f32⟩
  | 89 => ⟨S_, .f32⟩
  | 90 => ⟨S_, .f32⟩
  | 91 => ⟨S8192x1024, .i1⟩
  | 92 => ⟨S8192x1024, .f32⟩
  | 93 => ⟨S8192x1024, .f32⟩
  | 94 => ⟨S8192x1024, .f32⟩
  | 95 => ⟨S_, .i32⟩
  | 96 => ⟨S8192, .i32⟩
  | 97 => ⟨S8192, .i1⟩
  | 98 => ⟨S8192, .i1⟩
  | 99 => ⟨S8192x1, .i1⟩
  | 100 => ⟨S1x512x1024, .f32⟩
  | 101 => ⟨S512x1024, .f32⟩
  | 102 => ⟨S8192x1024, .f32⟩
  | 103 => ⟨S_, .f32⟩
  | 104 => ⟨S_, .f32⟩
  | 105 => ⟨S8192x1024, .i1⟩
  | 106 => ⟨S8192x1024, .f32⟩
  | 107 => ⟨S8192x1024, .f32⟩
  | 108 => ⟨S8192x1024, .f32⟩
  | 109 => ⟨S_, .i32⟩
  | 110 => ⟨S8192, .i32⟩
  | 111 => ⟨S8192, .i1⟩
  | 112 => ⟨S8192, .i1⟩
  | 113 => ⟨S8192x1, .i1⟩
  | 114 => ⟨S1x512x1024, .f32⟩
  | 115 => ⟨S512x1024, .f32⟩
  | 116 => ⟨S8192x1024, .f32⟩
  | 117 => ⟨S_, .f32⟩
  | 118 => ⟨S_, .f32⟩
  | 119 => ⟨S8192x1024, .i1⟩
  | 120 => ⟨S8192x1024, .f32⟩
  | 121 => ⟨S8192x1024, .f32⟩
  | 122 => ⟨S8192x1024, .f32⟩
  | 123 => ⟨S_, .i32⟩
  | 124 => ⟨S8192, .i32⟩
  | 125 => ⟨S8192, .i1⟩
  | 126 => ⟨S8192, .i1⟩
  | 127 => ⟨S8192x1, .i1⟩
  | _ => ⟨S8192x512, .f32⟩

abbrev hbmTy0_1 (i : Nat) : BufTy := match i % 128 with
  | 0 => ⟨S1x512x1024, .f32⟩
  | 1 => ⟨S512x1024, .f32⟩
  | 2 => ⟨S8192x1024, .f32⟩
  | 3 => ⟨S_, .f32⟩
  | 4 => ⟨S_, .f32⟩
  | 5 => ⟨S8192x1024, .i1⟩
  | 6 => ⟨S8192x1024, .f32⟩
  | 7 => ⟨S8192x1024, .f32⟩
  | 8 => ⟨S8192x1024, .f32⟩
  | 9 => ⟨S_, .i32⟩
  | 10 => ⟨S8192, .i32⟩
  | 11 => ⟨S8192, .i1⟩
  | 12 => ⟨S8192, .i1⟩
  | 13 => ⟨S8192x1, .i1⟩
  | 14 => ⟨S1x512x1024, .f32⟩
  | 15 => ⟨S512x1024, .f32⟩
  | 16 => ⟨S8192x1024, .f32⟩
  | 17 => ⟨S_, .f32⟩
  | 18 => ⟨S_, .f32⟩
  | 19 => ⟨S8192x1024, .i1⟩
  | 20 => ⟨S8192x1024, .f32⟩
  | 21 => ⟨S8192x1024, .f32⟩
  | 22 => ⟨S8192x1024, .f32⟩
  | 23 => ⟨S_, .i32⟩
  | 24 => ⟨S8192, .i32⟩
  | 25 => ⟨S8192, .i1⟩
  | 26 => ⟨S8192, .i1⟩
  | 27 => ⟨S8192x1, .i1⟩
  | 28 => ⟨S1x512x1024, .f32⟩
  | 29 => ⟨S512x1024, .f32⟩
  | 30 => ⟨S8192x1024, .f32⟩
  | 31 => ⟨S_, .f32⟩
  | 32 => ⟨S_, .f32⟩
  | 33 => ⟨S8192x1024, .i1⟩
  | 34 => ⟨S8192x1024, .f32⟩
  | 35 => ⟨S8192x1024, .f32⟩
  | 36 => ⟨S8192x1024, .f32⟩
  | 37 => ⟨S_, .i32⟩
  | 38 => ⟨S8192, .i32⟩
  | 39 => ⟨S8192, .i1⟩
  | 40 => ⟨S8192, .i1⟩
  | 41 => ⟨S8192x1, .i1⟩
  | 42 => ⟨S1x512x1024, .f32⟩
  | 43 => ⟨S512x1024, .f32⟩
  | 44 => ⟨S8192x1024, .f32⟩
  | 45 => ⟨S_, .f32⟩
  | 46 => ⟨S_, .f32⟩
  | 47 => ⟨S8192x1024, .i1⟩
  | 48 => ⟨S8192x1024, .f32⟩
  | 49 => ⟨S8192x1024, .f32⟩
  | 50 => ⟨S8192x1024, .f32⟩
  | 51 => ⟨S_, .i32⟩
  | 52 => ⟨S8192, .i32⟩
  | 53 => ⟨S8192, .i1⟩
  | 54 => ⟨S8192, .i1⟩
  | 55 => ⟨S8192x1, .i1⟩
  | 56 => ⟨S1x512x1024, .f32⟩
  | 57 => ⟨S512x1024, .f32⟩
  | 58 => ⟨S8192x1024, .f32⟩
  | 59 => ⟨S_, .f32⟩
  | 60 => ⟨S_, .f32⟩
  | 61 => ⟨S8192x1024, .i1⟩
  | 62 => ⟨S8192x1024, .f32⟩
  | 63 => ⟨S8192x1024, .f32⟩
  | 64 => ⟨S8192x1024, .f32⟩
  | 65 => ⟨S_, .i32⟩
  | 66 => ⟨S8192, .i32⟩
  | 67 => ⟨S8192, .i1⟩
  | 68 => ⟨S8192, .i1⟩
  | 69 => ⟨S8192x1, .i1⟩
  | 70 => ⟨S1x512x1024, .f32⟩
  | 71 => ⟨S512x1024, .f32⟩
  | 72 => ⟨S8192x1024, .f32⟩
  | 73 => ⟨S_, .f32⟩
  | 74 => ⟨S_, .f32⟩
  | 75 => ⟨S8192x1024, .i1⟩
  | 76 => ⟨S8192x1024, .f32⟩
  | 77 => ⟨S8192x1024, .f32⟩
  | 78 => ⟨S8192x1024, .f32⟩
  | 79 => ⟨S_, .i32⟩
  | 80 => ⟨S8192, .i32⟩
  | 81 => ⟨S8192, .i1⟩
  | 82 => ⟨S8192, .i1⟩
  | 83 => ⟨S8192x1, .i1⟩
  | 84 => ⟨S1x512x1024, .f32⟩
  | 85 => ⟨S512x1024, .f32⟩
  | 86 => ⟨S8192x1024, .f32⟩
  | 87 => ⟨S_, .f32⟩
  | 88 => ⟨S_, .f32⟩
  | 89 => ⟨S8192x1024, .i1⟩
  | 90 => ⟨S8192x1024, .f32⟩
  | 91 => ⟨S8192x1024, .f32⟩
  | 92 => ⟨S8192x1024, .f32⟩
  | 93 => ⟨S_, .i32⟩
  | 94 => ⟨S8192, .i32⟩
  | 95 => ⟨S8192, .i1⟩
  | 96 => ⟨S8192, .i1⟩
  | 97 => ⟨S8192x1, .i1⟩
  | 98 => ⟨S1x512x1024, .f32⟩
  | 99 => ⟨S512x1024, .f32⟩
  | 100 => ⟨S8192x1024, .f32⟩
  | 101 => ⟨S_, .f32⟩
  | 102 => ⟨S_, .f32⟩
  | 103 => ⟨S8192x1024, .i1⟩
  | 104 => ⟨S8192x1024, .f32⟩
  | 105 => ⟨S8192x1024, .f32⟩
  | 106 => ⟨S8192x1024, .f32⟩
  | 107 => ⟨S_, .i32⟩
  | 108 => ⟨S8192, .i32⟩
  | 109 => ⟨S8192, .i1⟩
  | 110 => ⟨S8192, .i1⟩
  | 111 => ⟨S8192x1, .i1⟩
  | 112 => ⟨S1x512x1024, .f32⟩
  | 113 => ⟨S512x1024, .f32⟩
  | 114 => ⟨S8192x1024, .f32⟩
  | 115 => ⟨S_, .f32⟩
  | 116 => ⟨S_, .f32⟩
  | 117 => ⟨S8192x1024, .i1⟩
  | 118 => ⟨S8192x1024, .f32⟩
  | 119 => ⟨S8192x1024, .f32⟩
  | 120 => ⟨S8192x1024, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v43 : Ref sig .tc := ⟨.hbm, 65, rfl⟩
abbrev main_v44 : Ref sig .tc := ⟨.hbm, 66, rfl⟩
abbrev main_c_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v52 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v61 : Ref sig .tc := ⟨.hbm, 93, rfl⟩
abbrev main_v62 : Ref sig .tc := ⟨.hbm, 94, rfl⟩
abbrev main_c_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_call5_v0 : Ref sig .tc := ⟨.hbm, 104, rfl⟩
abbrev main_call5_v1 : Ref sig .tc := ⟨.hbm, 105, rfl⟩
abbrev main_call5_v2 : Ref sig .tc := ⟨.hbm, 106, rfl⟩
abbrev main_v70 : Ref sig .tc := ⟨.hbm, 107, rfl⟩
abbrev main_v71 : Ref sig .tc := ⟨.hbm, 108, rfl⟩
abbrev main_c_13 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_14 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_v79 : Ref sig .tc := ⟨.hbm, 121, rfl⟩
abbrev main_v80 : Ref sig .tc := ⟨.hbm, 122, rfl⟩
abbrev main_c_15 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_16 : Ref sig .tc := ⟨.hbm, 131, rfl⟩
abbrev main_call7_v0 : Ref sig .tc := ⟨.hbm, 132, rfl⟩
abbrev main_call7_v1 : Ref sig .tc := ⟨.hbm, 133, rfl⟩
abbrev main_call7_v2 : Ref sig .tc := ⟨.hbm, 134, rfl⟩
abbrev main_v88 : Ref sig .tc := ⟨.hbm, 135, rfl⟩
abbrev main_v89 : Ref sig .tc := ⟨.hbm, 136, rfl⟩
abbrev main_c_17 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_18 : Ref sig .tc := ⟨.hbm, 145, rfl⟩
abbrev main_call8_v0 : Ref sig .tc := ⟨.hbm, 146, rfl⟩
abbrev main_call8_v1 : Ref sig .tc := ⟨.hbm, 147, rfl⟩
abbrev main_call8_v2 : Ref sig .tc := ⟨.hbm, 148, rfl⟩
abbrev main_v97 : Ref sig .tc := ⟨.hbm, 149, rfl⟩
abbrev main_v98 : Ref sig .tc := ⟨.hbm, 150, rfl⟩
abbrev main_c_19 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_cst_20 : Ref sig .tc := ⟨.hbm, 159, rfl⟩
abbrev main_call9_v0 : Ref sig .tc := ⟨.hbm, 160, rfl⟩
abbrev main_call9_v1 : Ref sig .tc := ⟨.hbm, 161, rfl⟩
abbrev main_call9_v2 : Ref sig .tc := ⟨.hbm, 162, rfl⟩
abbrev main_v106 : Ref sig .tc := ⟨.hbm, 163, rfl⟩
abbrev main_v107 : Ref sig .tc := ⟨.hbm, 164, rfl⟩
abbrev main_c_21 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_cst_22 : Ref sig .tc := ⟨.hbm, 173, rfl⟩
abbrev main_call10_v0 : Ref sig .tc := ⟨.hbm, 174, rfl⟩
abbrev main_call10_v1 : Ref sig .tc := ⟨.hbm, 175, rfl⟩
abbrev main_call10_v2 : Ref sig .tc := ⟨.hbm, 176, rfl⟩
abbrev main_v115 : Ref sig .tc := ⟨.hbm, 177, rfl⟩
abbrev main_v116 : Ref sig .tc := ⟨.hbm, 178, rfl⟩
abbrev main_c_23 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_cst_24 : Ref sig .tc := ⟨.hbm, 187, rfl⟩
abbrev main_call11_v0 : Ref sig .tc := ⟨.hbm, 188, rfl⟩
abbrev main_call11_v1 : Ref sig .tc := ⟨.hbm, 189, rfl⟩
abbrev main_call11_v2 : Ref sig .tc := ⟨.hbm, 190, rfl⟩
abbrev main_v124 : Ref sig .tc := ⟨.hbm, 191, rfl⟩
abbrev main_v125 : Ref sig .tc := ⟨.hbm, 192, rfl⟩
abbrev main_c_25 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_26 : Ref sig .tc := ⟨.hbm, 201, rfl⟩
abbrev main_call12_v0 : Ref sig .tc := ⟨.hbm, 202, rfl⟩
abbrev main_call12_v1 : Ref sig .tc := ⟨.hbm, 203, rfl⟩
abbrev main_call12_v2 : Ref sig .tc := ⟨.hbm, 204, rfl⟩
abbrev main_v133 : Ref sig .tc := ⟨.hbm, 205, rfl⟩
abbrev main_v134 : Ref sig .tc := ⟨.hbm, 206, rfl⟩
abbrev main_c_27 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_v141 : Ref sig .tc := ⟨.hbm, 214, rfl⟩
abbrev main_cst_28 : Ref sig .tc := ⟨.hbm, 215, rfl⟩
abbrev main_call13_v0 : Ref sig .tc := ⟨.hbm, 216, rfl⟩
abbrev main_call13_v1 : Ref sig .tc := ⟨.hbm, 217, rfl⟩
abbrev main_call13_v2 : Ref sig .tc := ⟨.hbm, 218, rfl⟩
abbrev main_v142 : Ref sig .tc := ⟨.hbm, 219, rfl⟩
abbrev main_v143 : Ref sig .tc := ⟨.hbm, 220, rfl⟩
abbrev main_c_29 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_cst_30 : Ref sig .tc := ⟨.hbm, 229, rfl⟩
abbrev main_call14_v0 : Ref sig .tc := ⟨.hbm, 230, rfl⟩
abbrev main_call14_v1 : Ref sig .tc := ⟨.hbm, 231, rfl⟩
abbrev main_call14_v2 : Ref sig .tc := ⟨.hbm, 232, rfl⟩
abbrev main_v151 : Ref sig .tc := ⟨.hbm, 233, rfl⟩
abbrev main_v152 : Ref sig .tc := ⟨.hbm, 234, rfl⟩
abbrev main_c_31 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_cst_32 : Ref sig .tc := ⟨.hbm, 243, rfl⟩
abbrev main_call15_v0 : Ref sig .tc := ⟨.hbm, 244, rfl⟩
abbrev main_call15_v1 : Ref sig .tc := ⟨.hbm, 245, rfl⟩
abbrev main_call15_v2 : Ref sig .tc := ⟨.hbm, 246, rfl⟩
abbrev main_v160 : Ref sig .tc := ⟨.hbm, 247, rfl⟩
abbrev main_v161 : Ref sig .tc := ⟨.hbm, 248, rfl⟩

abbrev nD : Nat := 1
abbrev τ : Topo := Topo.v7x

variable {F : FTy → Type} [FloatOps F]
-- ==== Proof.Cells.lean ====
/-
The exchange's places: the two neighbours of a device, the semaphore cells, the windows of the two scratch buffers,
and what those buffers hold once everything has arrived.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Ghost state: the staging pipeline's copy of the rounds library and the exchange's own, duties named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all counters zero. -/
def s₀ : MemSt nD τ sig (Elt F) := ⟨m, fun _ => 0, ρ⟩

/-! ## Devices -/

set_option backward.proofsInPublic true in
/-- The device `k` places to the right of `c` on the ring of four. -/
def sh (c : Dev nD) (k : ℕ) : Dev nD := ⟨(c.val + k) % 4, Nat.mod_lt _ (by decide)⟩

theorem sh_sh (c : Dev nD) (j k : ℕ) : sh (sh c j) k = sh c (j + k) := Fin.ext (by simp only [sh]; omega)
theorem sh_four (c : Dev nD) : sh c 4 = c := by revert c; decide
theorem sh_zero (c : Dev nD) : sh c 0 = c := by revert c; decide
theorem sh_13 (c : Dev nD) : sh (sh c 1) 3 = c := by rw [sh_sh]; exact sh_four c
theorem sh_31 (c : Dev nD) : sh (sh c 3) 1 = c := by rw [sh_sh]; exact sh_four c
theorem sh_mod (c : Dev nD) (k : ℕ) : sh c (k % 4) = sh c k := Fin.ext (by simp only [sh]; omega)

def ring : Dev nD ≃ Dev nD := ⟨fun c => sh c 1, fun c => sh c 3, sh_13, sh_31⟩

theorem dev1_eq (c : Dev nD) : (⟨k0_dev1 c, k0_dev1_lt c⟩ : Dev nD) = sh c 3 := Fin.ext (k0_dev1_eq c)
theorem dev2_eq (c : Dev nD) : (⟨k0_dev2 c, k0_dev2_lt c⟩ : Dev nD) = sh c 1 := Fin.ext (k0_dev2_eq c)
theorem dev3_eq (c : Dev nD) : (⟨k0_dev3 c, k0_dev3_lt c⟩ : Dev nD) = sh c 1 := Fin.ext (k0_dev3_eq c)
theorem dev4_eq (c : Dev nD) : (⟨k0_dev4 c, k0_dev4_lt c⟩ : Dev nD) = sh c 1 := Fin.ext (k0_dev4_eq c)
theorem dev5_eq (c : Dev nD) : (⟨k0_dev5 c, k0_dev5_lt c⟩ : Dev nD) = sh c 3 := Fin.ext (k0_dev5_eq c)
theorem dev6_eq (c : Dev nD) : (⟨k0_dev6 c, k0_dev6_lt c⟩ : Dev nD) = sh c 1 := Fin.ext (k0_dev6_eq c)
theorem dev7_eq (c : Dev nD) : (⟨k0_dev7 c, k0_dev7_lt c⟩ : Dev nD) = sh c 3 := Fin.ext (k0_dev7_eq c)
theorem dev8_eq (c : Dev nD) : (⟨k0_dev8 c, k0_dev8_lt c⟩ : Dev nD) = sh c 1 := Fin.ext (k0_dev8_eq c)
theorem dev9_eq (c : Dev nD) : (⟨k0_dev9 c, k0_dev9_lt c⟩ : Dev nD) = sh c 1 := Fin.ext (k0_dev9_eq c)
theorem dev10_eq (c : Dev nD) : (⟨k0_dev10 c, k0_dev10_lt c⟩ : Dev nD) = sh c 3 := Fin.ext (k0_dev10_eq c)
theorem dev11_eq (c : Dev nD) : (⟨k0_dev11 c, k0_dev11_lt c⟩ : Dev nD) = sh c 1 := Fin.ext (k0_dev11_eq c)

/-! ## Cells -/

/-- The runtime's barrier semaphore, and the eighteen DMA semaphores of the exchange (`4 … 21`). -/
abbrev barS : Sem sig := (SemArray.scalar (sig.barrier 0 rfl) : Sems sig S_).sem
abbrev barCell (c : Dev nD) : GSem nD τ sig := ((c : Thread nD τ), .reg barS)
abbrev dCell (c : Dev nD) (q : DmaSem sig) : GSem nD τ sig := ((c : Thread nD τ), .dma q)

set_option backward.proofsInPublic true in
abbrev dq (k : Fin 18) : DmaSem sig := ⟨k.val + 4, by have := k.isLt; show k.val + 4 < 22; omega⟩

/-! ## Windows of the two scratch buffers -/

/-- Experts' slots `[a, b)` of the weights' buffer. -/
def slots (a b : ℕ) : Finset (S16x512x1024.Idx) := Finset.univ.filter fun i => a ≤ (i 0).val ∧ (i 0).val < b
/-- Row `r` of the counts' buffer. -/
def row (r : ℕ) : Finset (S4x8x128.Idx) := Finset.univ.filter fun i => (i 0).val = r

theorem slots_union (a b c : ℕ) (h : a ≤ b) (h' : b ≤ c) : slots a c = slots a b ∪ slots b c := by
  ext i; simp only [slots, Finset.mem_union, Finset.mem_filter, Finset.mem_univ, true_and]; omega
theorem slots_disj (a b c : ℕ) : Disjoint (slots a b) (slots b c) := by
  rw [Finset.disjoint_left]; intro i; simp only [slots, Finset.mem_filter, Finset.mem_univ, true_and]; omega
theorem slots_all : slots 0 16 = Finset.univ := by
  ext i; simp only [slots, Finset.mem_filter, Finset.mem_univ, true_and, iff_true]; exact ⟨Nat.zero_le _, (i 0).isLt⟩
theorem row_disj {r r' : ℕ} (h : r ≠ r') : Disjoint (row r) (row r') := by
  rw [Finset.disjoint_left]; intro i; simp only [row, Finset.mem_filter, Finset.mem_univ, true_and]; omega

abbrev wM : Memref sig .tc .vmem S16x512x1024 .bf16 := Memref.whole cc0_scratch0
abbrev cM : Memref sig .tc .vmem S4x8x128 .f32 := Memref.whole cc0_scratch1

theorem mem_rect_slots {a n : ℕ} {h : ∀ x, (![a, 0, 0] : Fin 3 → ℕ) x + (![n, 512, 1024] : Fin 3 → ℕ) x ≤ S16x512x1024.size x} (i : S16x512x1024.Idx) :
    i ∈ (Rect.unit (s := S16x512x1024) ![a, 0, 0] ![n, 512, 1024] h).set ↔ i ∈ slots a (a + n) := by
  rw [Rect.mem_set_unit]
  simp only [slots, Finset.mem_filter, Finset.mem_univ, true_and]
  constructor
  · intro H; exact H 0
  · intro H x
    match x with
    | ⟨0, _⟩ => exact H
    | ⟨1, _⟩ => show 0 ≤ (i 1).val ∧ (i 1).val < 0 + 512; have : (i 1).val < 512 := (i 1).isLt; omega
    | ⟨2, _⟩ => show 0 ≤ (i 2).val ∧ (i 2).val < 0 + 1024; have : (i 2).val < 1024 := (i 2).isLt; omega

theorem mem_rect_row {r : ℕ} {h : ∀ x, (![r, 0, 0] : Fin 3 → ℕ) x + (![1, 8, 128] : Fin 3 → ℕ) x ≤ S4x8x128.size x} (i : S4x8x128.Idx) :
    i ∈ (Rect.unit (s := S4x8x128) ![r, 0, 0] ![1, 8, 128] h).set ↔ i ∈ row r := by
  rw [Rect.mem_set_unit]
  simp only [row, Finset.mem_filter, Finset.mem_univ, true_and]
  constructor
  · intro H; have := H 0; have h1 : r ≤ (i 0).val ∧ (i 0).val < r + 1 := this; omega
  · intro H x
    match x with
    | ⟨0, _⟩ => show r ≤ (i 0).val ∧ (i 0).val < r + 1; omega
    | ⟨1, _⟩ => show 0 ≤ (i 1).val ∧ (i 1).val < 0 + 8; have : (i 1).val < 8 := (i 1).isLt; omega
    | ⟨2, _⟩ => show 0 ≤ (i 2).val ∧ (i 2).val < 0 + 128; have : (i 2).val < 128 := (i 2).isLt; omega

theorem set_wslice {a n : ℕ} (h : ∀ x, (![a, 0, 0] : Fin 3 → ℕ) x + (![n, 512, 1024] : Fin 3 → ℕ) x ≤ S16x512x1024.size x) :
    ((View.whole cc0_scratch0).slice (Rect.unit (s := S16x512x1024) ![a, 0, 0] ![n, 512, 1024] h)).set = slots a (a + n) := by
  rw [View.set_slice_whole]; ext i; exact mem_rect_slots i
theorem set_cslice {r : ℕ} (h : ∀ x, (![r, 0, 0] : Fin 3 → ℕ) x + (![1, 8, 128] : Fin 3 → ℕ) x ≤ S4x8x128.size x) :
    ((View.whole cc0_scratch1).slice (Rect.unit (s := S4x8x128) ![r, 0, 0] ![1, 8, 128] h)).set = row r := by
  rw [View.set_slice_whole]; ext i; exact mem_rect_row i

/-! ## Contents -/

/-- What device `c`'s staging buffers hold: its tokens, their experts, its own four experts' weights. -/
def xstg (c : Dev nD) : (cc0_stg0_0 : Ref sig .tc).ty.Contents (Elt F) :=
  (win0_0.blk (0 : Fin 1)).view.read (Elt F) ((s₀ m ρ).mem ((c : Thread nD τ).loc main_arg0))
def istg (c : Dev nD) : (cc0_stg1_0 : Ref sig .tc).ty.Contents (Elt F) :=
  (win0_1.blk (0 : Fin 1)).view.read (Elt F) ((s₀ m ρ).mem ((c : Thread nD τ).loc main_arg2))
def estg (c : Dev nD) : (cc0_stg2_0 : Ref sig .tc).ty.Contents (Elt F) :=
  (win0_2.blk (0 : Fin 1)).view.read (Elt F) ((s₀ m ρ).mem ((c : Thread nD τ).loc main_arg3))

set_option backward.proofsInPublic true in
/-- Device `c`'s weights' buffer when all has arrived: slot `p` holds expert `p % 4` of the device `p / 4` places to the right. -/
def wallC (c : Dev nD) : (cc0_scratch0 : Ref sig .tc).ty.Contents (Elt F) := fun i =>
  k0_pay3 (estg m ρ (sh c ((i 0).val / 4)))
    (fun | ⟨0, _⟩ => ⟨(i 0).val % 4, Nat.mod_lt _ (by decide)⟩ | ⟨1, _⟩ => (⟨(i 1).val, (i 1).isLt⟩ : Fin 512) | ⟨2, _⟩ => (⟨(i 2).val, (i 2).isLt⟩ : Fin 1024))

set_option backward.proofsInPublic true in
/-- The counts' buffer when all has arrived, the same on every device: row `r` holds device `r`'s counts. -/
def cntC : (cc0_scratch1 : Ref sig .tc).ty.Contents (Elt F) := fun i =>
  k0_pay2 (istg m ρ (⟨(i 0).val, (i 0).isLt⟩ : Fin 4))
    (fun | ⟨0, _⟩ => (⟨0, by decide⟩ : Fin 1) | ⟨1, _⟩ => (⟨(i 1).val, (i 1).isLt⟩ : Fin 8) | ⟨2, _⟩ => (⟨(i 2).val, (i 2).isLt⟩ : Fin 128))

/-- Slots `[a, b)` of device `c`'s weights' buffer at share `q`; row `r` of its counts' buffer. -/
def wPts (c : Dev nD) (a b : ℕ) (q : PosShare TreeShare) (f : Buf (Elt F) ((c : Thread nD τ).loc cc0_scratch0)) : sProp 𝕄 :=
  ((c : Thread nD τ).loc cc0_scratch0) ↦[slots a b]{q} f
def cPts (c : Dev nD) (r : ℕ) (f : Buf (Elt F) ((c : Thread nD τ).loc cc0_scratch1)) : sProp 𝕄 :=
  ((c : Thread nD τ).loc cc0_scratch1) ↦[row r]{fullShare} f

omit [FloatOps F] in
instance wPts_storable (c : Dev nD) (a b : ℕ) (q) (f) : BI.Storable (upEmb : UEmb _ 𝕄) (wPts (F := F) c a b q f) := by unfold wPts; infer_instance
omit [FloatOps F] in
instance cPts_storable (c : Dev nD) (r : ℕ) (f) : BI.Storable (upEmb : UEmb _ 𝕄) (cPts (F := F) c r f) := by unfold cPts; infer_instance

omit [FloatOps F] in
theorem wPts_split (c : Dev nD) (a b d : ℕ) (h : a ≤ b) (h' : b ≤ d) (q) (f : Buf (Elt F) ((c : Thread nD τ).loc cc0_scratch0)) :
    wPts c a d q f ⊣⊢ iprop(wPts c a b q f ∗ wPts c b d q f) := by
  unfold wPts; rw [slots_union a b d h h']; exact pointsTo_union (slots_disj a b d)
omit [FloatOps F] in
theorem wPts_join (c : Dev nD) (a b d : ℕ) (h : a ≤ b) (h' : b ≤ d) (q) (f : Buf (Elt F) ((c : Thread nD τ).loc cc0_scratch0)) :
    iprop(wPts c a b q f ∗ wPts c b d q f) ⊢ wPts c a d q f := (wPts_split c a b d h h' q f).2
omit [FloatOps F] in
theorem wPts_half (c : Dev nD) (a b : ℕ) (q) (f : Buf (Elt F) ((c : Thread nD τ).loc cc0_scratch0)) :
    wPts c a b q f ⊣⊢ iprop(wPts c a b q.left f ∗ wPts c a b q.right f) := by
  unfold wPts; exact pointsTo_share (PosShare.mem_left_op_right q)
omit [FloatOps F] in
theorem wPts_whole (c : Dev nD) (q) (f : Buf (Elt F) ((c : Thread nD τ).loc cc0_scratch0)) :
    (((c : Thread nD τ).loc cc0_scratch0) ↦{q} f : sProp 𝕄) = wPts c 0 16 q f := by unfold wPts; rw [slots_all]

theorem rows_all (r : Fin 4) : (Finset.univ : Finset S4x8x128.Idx)
    = row r.val ∪ (row ((r.val + 3) % 4) ∪ (row ((r.val + 2) % 4) ∪ row ((r.val + 1) % 4))) := by
  ext i; simp only [row, Finset.mem_union, Finset.mem_filter, Finset.mem_univ, true_and, true_iff]
  have h : (i 0).val < 4 := (i 0).isLt
  have := r.isLt; omega

omit [FloatOps F] in
/-- The counts' buffer is its four rows, listed from any one of them downwards. -/
theorem cPts_rows (c : Dev nD) (r : Fin 4) (f : Buf (Elt F) ((c : Thread nD τ).loc cc0_scratch1)) :
    (((c : Thread nD τ).loc cc0_scratch1) ↦{fullShare} f : sProp 𝕄)
      ⊣⊢ iprop(cPts c r.val f ∗ cPts c ((r.val + 3) % 4) f ∗ cPts c ((r.val + 2) % 4) f ∗ cPts c ((r.val + 1) % 4) f) := by
  have hr := r.isLt
  unfold cPts
  rw [rows_all r]
  have d1 : Disjoint (row ((r.val + 2) % 4)) (row ((r.val + 1) % 4)) := row_disj (by omega)
  have d2 : Disjoint (row ((r.val + 3) % 4)) (row ((r.val + 2) % 4) ∪ row ((r.val + 1) % 4)) :=
    Finset.disjoint_union_right.mpr ⟨row_disj (by omega), row_disj (by omega)⟩
  have d3 : Disjoint (row r.val) (row ((r.val + 3) % 4) ∪ (row ((r.val + 2) % 4) ∪ row ((r.val + 1) % 4))) :=
    Finset.disjoint_union_right.mpr ⟨row_disj (by omega), Finset.disjoint_union_right.mpr ⟨row_disj (by omega), row_disj (by omega)⟩⟩
  exact ⟨(pointsTo_union d3).1.trans (sep_mono_right ((pointsTo_union d2).1.trans (sep_mono_right (pointsTo_union d1).1))),
    (sep_mono_right ((sep_mono_right (pointsTo_union d1).2).trans (pointsTo_union d2).2)).trans (pointsTo_union d3).2⟩

end Cert.Moe

end
-- ==== Proof.Schedule.lean ====
/-
The exchange's schedule: which cell is paid by whom, how much, and what each payment hands over; what a device owes;
the levels that order the waits.
-/
module

public import proofs.«01_k».proof.Proof.Cells
public import Mathlib.Tactic.IntervalCases

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tables -/

/-- The first slot of the pair of slots that a weights' semaphore is about: read from by a send, landed in by a receive. -/
def lo : ℕ → ℕ
  | 4 => 0 | 5 => 2 | 6 => 12 | 7 => 12 | 8 => 14 | 9 => 8 | 10 => 2 | 11 => 0 | 12 => 6 | 13 => 6 | 14 => 4 | _ => 10
/-- The share of it: two sends read each own pair, one send each pair passed on, and the rest of the share stays for the loads. -/
def shr : ℕ → PosShare TreeShare
  | 4 => fullShare.left | 10 => fullShare.left | 6 => fullShare.left | 12 => fullShare.left
  | 5 => fullShare.right.left | 11 => fullShare.right.left | _ => fullShare
/-- The row of the counts that a counts' semaphore is about, as a distance from the device. -/
def off : ℕ → ℕ
  | 16 => 0 | 17 => 3 | 18 => 2 | 19 => 3 | 20 => 2 | _ => 1

abbrev wSl (a : ℕ) (h : ∀ x, (![a, 0, 0] : Fin 3 → ℕ) x + S2x512x1024.size x ≤ S16x512x1024.size x) : Memref sig .tc .vmem S2x512x1024 .bf16 :=
  wM.slice (Rect.unit (s := S16x512x1024) ![a, 0, 0] S2x512x1024.size h) (fun _ => rfl)
abbrev cSl (o : Fin 3 → ℕ) (h : ∀ x, o x + S1x8x128.size x ≤ S4x8x128.size x) : Memref sig .tc .vmem S1x8x128 .f32 :=
  cM.slice (Rect.unit (s := S4x8x128) o S1x8x128.size h) (fun _ => rfl)

/-- The bytes' credit of one pair of slots and of one row of counts. -/
def Nw : ℕ := (wSl 0 inb_S16x512x1024_S2x512x1024_0_0_0).view.dmaCredit
def Nc : ℕ := (cSl ![0, 0, 0] (by decide)).view.dmaCredit
theorem Nw_pos : 0 < Nw := View.dmaCredit_pos _ (by decide)
theorem Nc_pos : 0 < Nc := View.dmaCredit_pos _ (by decide)
def amt (q : ℕ) : ℕ := if q < 16 then Nw else Nc
theorem amt_pos (q : ℕ) : 0 < amt q := by unfold amt; split; exacts [Nw_pos, Nc_pos]

/-- What the payment on DMA cell `q` of device `c` hands to `c`: its source's share back, or the landed window. -/
def pay (c : Dev nD) (q : ℕ) : sProp 𝕄 :=
  if q < 16 then wPts c (lo q) (lo q + 2) (shr q) (wallC m ρ c) else cPts c (sh c (off q)).val (cntC m ρ)

/-- What the right neighbour's signal hands `c`: the places on the right neighbour that `c` writes. -/
def barR (c : Dev nD) : sProp 𝕄 :=
  iprop((∃ f, wPts (sh c 1) 12 14 fullShare f) ∗ (∃ f, wPts (sh c 1) 14 16 fullShare f) ∗ (∃ f, wPts (sh c 1) 8 10 fullShare f)
    ∗ (∃ f, cPts (sh c 1) c.val f) ∗ (∃ f, cPts (sh c 1) (sh c 3).val f) ∗ (∃ f, cPts (sh c 1) (sh c 2).val f))
/-- What the left neighbour's signal hands `c`: the places on the left neighbour that `c` writes. -/
def barL (c : Dev nD) : sProp 𝕄 :=
  iprop((∃ f, wPts (sh c 3) 6 8 fullShare f) ∗ (∃ f, wPts (sh c 3) 4 6 fullShare f) ∗ (∃ f, wPts (sh c 3) 10 12 fullShare f))

instance pay_storable (c : Dev nD) (q : ℕ) : BI.Storable (upEmb : UEmb _ 𝕄) (pay m ρ c q) := by
  unfold pay; split <;> infer_instance
omit [FloatOps F] in
instance barR_storable (c : Dev nD) : BI.Storable (upEmb : UEmb _ 𝕄) (barR (F := F) c) := by unfold barR; infer_instance
omit [FloatOps F] in
instance barL_storable (c : Dev nD) : BI.Storable (upEmb : UEmb _ 𝕄) (barL (F := F) c) := by unfold barL; infer_instance

/-- The number of a DMA cell (`0` for a regular one). -/
def qn (g : GSem nD τ sig) : ℕ := match g.2 with | .dma q => q.val | .reg _ => 0
abbrev IsBar (g : GSem nD τ sig) : Prop := g.1.2 = .tc ∧ g.2 = .reg barS
abbrev IsXfer (g : GSem nD τ sig) : Prop := g.1.2 = .tc ∧ 4 ≤ qn g

/-- One round: the barrier's two duties of one unit (`true` by the right neighbour, `false` by the left), and one duty on every
    DMA cell, of its window's credit. -/
def rd : Rounds.Schedule (GSem nD τ sig) Bool 𝕄 where
  duties g r := if r = 0 ∧ IsBar g then Finset.univ else if r = 0 ∧ IsXfer g then {false} else ∅
  unitless _ := False
  amount g _ _ := if g.2 = .reg barS then 1 else amt (qn g)
  payload g _ d := if g.2 = .reg barS then (if d then barR g.1.1 else barL g.1.1) else pay m ρ g.1.1 (qn g)
  amount_pos g _ _ _ := by
    by_cases h : g.2 = .reg barS
    · rw [if_pos h]; exact Nat.one_pos
    · rw [if_neg h]; exact amt_pos _

instance rd_payload_storable (g : GSem nD τ sig) (r : ℕ) (d : Bool) : BI.Storable (upEmb : UEmb _ 𝕄) ((rd (F := F) m ρ).payload g r d) := by
  show BI.Storable upEmb (if g.2 = .reg barS then (if d then barR g.1.1 else barL g.1.1) else pay m ρ g.1.1 (qn g))
  (repeat' split) <;> infer_instance

section Tables
variable (c : Dev nD) (q : DmaSem sig) (hq : 4 ≤ q.val)

theorem dma_ne_bar (q : DmaSem sig) : (SemLoc.dma q : SemLoc sig) ≠ .reg barS := fun h => by cases h

theorem duties_bar : (rd (F := F) m ρ).duties (barCell c) 0 = Finset.univ := by dsimp only [rd]; exact if_pos ⟨rfl, rfl, rfl⟩
include hq in
theorem duties_dma : (rd (F := F) m ρ).duties (dCell c q) 0 = {false} := by
  dsimp only [rd]; rw [if_neg (fun h => dma_ne_bar q h.2.2)]; exact if_pos ⟨rfl, rfl, hq⟩
theorem duties_later (g : GSem nD τ sig) : ∀ r, 1 ≤ r → (rd (F := F) m ρ).duties g r = ∅ :=
  fun r hr => by dsimp only [rd]; rw [if_neg fun h => by omega, if_neg fun h => by omega]
theorem amount_bar (d : Bool) : (rd (F := F) m ρ).amount (barCell c) 0 d = 1 := by dsimp only [rd]; exact if_pos rfl
theorem amount_dma (d : Bool) : (rd (F := F) m ρ).amount (dCell c q) 0 d = amt q.val := by dsimp only [rd]; exact if_neg (dma_ne_bar q)
theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
include hq in
theorem expect_dma : (rd (F := F) m ρ).expect (dCell c q) 0 = amt q.val := by
  unfold Schedule.expect Schedule.amountOf; rw [duties_dma m ρ c q hq, Finset.sum_singleton, amount_dma]
theorem payload_bar_true : (rd (F := F) m ρ).payload (barCell c) 0 true = barR c := by dsimp only [rd]; rw [if_pos rfl, if_pos rfl]
theorem payload_bar_false : (rd (F := F) m ρ).payload (barCell c) 0 false = barL c := by
  dsimp only [rd]; rw [if_pos rfl]; exact if_neg Bool.false_ne_true
theorem payload_dma (d : Bool) : (rd (F := F) m ρ).payload (dCell c q) 0 d = pay m ρ c q.val := by dsimp only [rd]; rw [if_neg (dma_ne_bar q)]; rfl
theorem rest_bar : bigSep ((rd (F := F) m ρ).duties (barCell c) 0 \ ∅) (fun d => (rd (F := F) m ρ).payload (barCell c) 0 d) = iprop(barL c ∗ barR c) := by
  rw [Finset.sdiff_empty, duties_bar, bigSep_univ_eq_bigSepL [false, true] (by decide) (by decide), bigSepL_cons_cons, bigSepL_singleton,
    payload_bar_false, payload_bar_true]
  rfl
include hq in
theorem rest_dma : bigSep ((rd (F := F) m ρ).duties (dCell c q) 0 \ ∅) (fun d => (rd (F := F) m ρ).payload (dCell c q) 0 d) = pay m ρ c q.val := by
  rw [Finset.sdiff_empty, duties_dma m ρ c q hq, bigSep_singleton, payload_dma]
end Tables

/-! ## What a device owes, and the levels -/

/-- The nine landings that device `c` pays, latest first. -/
def dues (c : Dev nD) : List (GSem nD τ sig × ℕ) :=
  [(dCell (sh c 1) ⟨21, by decide⟩, Nc), (dCell (sh c 3) ⟨15, by decide⟩, Nw), (dCell (sh c 1) ⟨9, by decide⟩, Nw), (dCell (sh c 1) ⟨20, by decide⟩, Nc),
   (dCell (sh c 3) ⟨14, by decide⟩, Nw), (dCell (sh c 1) ⟨8, by decide⟩, Nw), (dCell (sh c 3) ⟨13, by decide⟩, Nw), (dCell (sh c 1) ⟨7, by decide⟩, Nw),
   (dCell (sh c 1) ⟨19, by decide⟩, Nc), (barCell (sh c 1), 1), (barCell (sh c 3), 1)]

/-- The sum of the first `n` of them: what is still owed when that many are left. -/
def ow (c : Dev nD) : ℕ → CellTallies nD τ sig Unit
  | 0 => 0
  | n + 1 => ow c n + tallyAt ((dues c).getD n (barCell c, 0)).1 () ((dues c).getD n (barCell c, 0)).2

def L (g : GSem nD τ sig) : Finset Unit := if g.1.2 = .tc then {()} else ∅
/-- Staging and send cells lowest, then the barrier, then the landings in the order in which they are waited for. -/
def lvn : ℕ → ℕ
  | 7 => 2 | 13 => 2 | 19 => 2 | 8 => 2 | 14 => 2 | 20 => 3 | 9 => 4 | 15 => 4 | 21 => 4 | _ => 0
def lv (g : GSem nD τ sig) (_ : Unit) : ℕ := if g.2 = .reg barS then 1 else lvn (qn g)

theorem L_of_ne (g : GSem nD τ sig) (h : g.1.2 ≠ .tc) : L g = ∅ := if_neg h
theorem L_tc (c : Dev nD) (sm : SemLoc sig) : L ((c : Thread nD τ), sm) = {()} := if_pos rfl

theorem ow_pos {c : Dev nD} {n : ℕ} {g : GSem nD τ sig} {u : Unit} (h : 0 < ow c n g u) :
    ∃ k < n, g = ((dues c).getD k (barCell c, 0)).1 := by
  induction n with
  | zero => exact absurd h (Nat.lt_irrefl 0)
  | succ n ih =>
    rw [ow, Pi.add_apply, Finsupp.add_apply] at h
    rcases Nat.add_pos_iff_pos_or_pos.mp h with h | h
    · obtain ⟨k, hk, e⟩ := ih h; exact ⟨k, by omega, e⟩
    · refine ⟨n, by omega, ?_⟩
      rw [tallyAt_apply] at h
      by_contra hn
      rw [if_neg (fun h' => hn h'.1)] at h
      exact Nat.lt_irrefl 0 h

omit [FloatOps F] in
/-- A cell whose level is below those of the first `n` dues may be waited for while these are owed. -/
theorem mayWait_ow (c : Dev nD) (sm : SemLoc sig) (n b : ℕ) (hs : lv ((c : Thread nD τ), sm) () ≤ b)
    (hb : ∀ k < n, ((dues c).getD k (barCell c, 0)).1.1.2 = .tc ∧ b < lv ((dues c).getD k (barCell c, 0)).1 ()) :
    (levAts L lv : sProp 𝕄) ⊢ MayWait (c : Thread nD τ) sm () (ow c n) :=
  MayOwe.of_cut (L := L) (lev := lv) b (fun p hp => by rw [Finset.mem_singleton.mp hp, L_tc]; exact Finset.mem_singleton_self _)
    (fun g u hg => by
      obtain ⟨k, hk, rfl⟩ := ow_pos hg
      rw [L, if_pos (hb k hk).1]; exact Finset.mem_singleton_self _)
    (fun p hp => by rw [Finset.mem_singleton.mp hp]; exact hs)
    (fun g u hg => by
      obtain ⟨k, hk, rfl⟩ := ow_pos hg
      exact (hb k hk).2)

theorem lv_dma (c : Dev nD) (q : DmaSem sig) : lv (dCell c q) () = lvn q.val := by unfold lv; rw [if_neg (dma_ne_bar q)]; rfl
theorem lv_bar (c : Dev nD) : lv (barCell c) () = 1 := by unfold lv; rw [if_pos rfl]

/-- The level of the `k`-th due. -/
def dl : ℕ → ℕ
  | 0 => 4 | 1 => 4 | 2 => 4 | 3 => 3 | 4 => 2 | 5 => 2 | 6 => 2 | 7 => 2 | 8 => 2 | _ => 1
theorem dues_lv (c : Dev nD) (k : ℕ) (hk : k < 11) :
    ((dues c).getD k (barCell c, 0)).1.1.2 = .tc ∧ lv ((dues c).getD k (barCell c, 0)).1 () = dl k := by
  interval_cases k
  all_goals first | exact ⟨rfl, lv_dma _ _⟩ | exact ⟨rfl, lv_bar _⟩

omit [FloatOps F] in
theorem mayWait_dma (c : Dev nD) (q : DmaSem sig) (n : ℕ) (hn : n ≤ 11) (h : ∀ k < n, lvn q.val < dl k) :
    (levAts L lv : sProp 𝕄) ⊢ MayWait (c : Thread nD τ) (.dma q) () (ow c n) :=
  mayWait_ow c _ n (lvn q.val) (le_of_eq (lv_dma c q)) fun k hk =>
    ⟨(dues_lv c k (by omega)).1, by rw [(dues_lv c k (by omega)).2]; exact h k hk⟩
omit [FloatOps F] in
theorem mayWait_bar (c : Dev nD) : (levAts L lv : sProp 𝕄) ⊢ MayWait (c : Thread nD τ) (.reg barS) () (ow c 9) :=
  mayWait_ow c _ 9 1 (le_of_eq (lv_bar c)) fun k hk =>
    ⟨(dues_lv c k (by omega)).1, by rw [(dues_lv c k (by omega)).2]; interval_cases k <;> decide⟩

/-! ## The records: every cell's invariant and that its round is open -/

/-- All cells of a device: the barrier, then the eighteen. -/
def csem (k : Fin 19) : SemLoc sig := if h : k.val = 0 then .reg barS else .dma ⟨k.val + 3, by have := k.isLt; show k.val + 3 < 22; omega⟩
abbrev kcell (ck : Dev nD × Fin 19) : GSem nD τ sig := ((ck.1 : Thread nD τ), csem ck.2)
set_option backward.proofsInPublic true in
def kk (q : DmaSem sig) : Fin 19 := ⟨q.val - 3, by have : q.val < 22 := q.isLt; omega⟩
theorem csem_zero : csem 0 = .reg barS := rfl
theorem csem_kk (q : DmaSem sig) (hq : 4 ≤ q.val) : csem (kk q) = .dma q := by
  unfold csem kk; rw [dif_neg (by show ¬ q.val - 3 = 0; omega)]
  exact congrArg SemLoc.dma (Fin.ext (by show q.val - 3 + 3 = q.val; omega))

def records (K : Dev nD × Fin 19 → ℕ) : sProp 𝕄 :=
  iprop((bigSep Finset.univ fun ck : Dev nD × Fin 19 => cellInv ER (rd m ρ) (K ck) (kcell ck))
    ∗ bigSep Finset.univ fun ck : Dev nD × Fin 19 => reached ER (kcell ck) 0)
instance records_persistent (K : Dev nD × Fin 19 → ℕ) : BI.Persistent (records m ρ K) := by unfold records; infer_instance

variable (K : Dev nD × Fin 19 → ℕ)

theorem rec_inv_at (ck : Dev nD × Fin 19) : records m ρ K ⊢ cellInv ER (rd m ρ) (K ck) (kcell ck) :=
  sep_elim_left.trans (bigSep_elim (Finset.mem_univ ck))
theorem rec_reach_at (ck : Dev nD × Fin 19) : records m ρ K ⊢ reached ER (kcell ck) 0 :=
  sep_elim_right.trans (bigSep_elim (Finset.mem_univ ck))
theorem kcell_kk (c : Dev nD) (q : DmaSem sig) (hq : 4 ≤ q.val) : kcell (c, kk q) = dCell c q := Prod.ext rfl (csem_kk q hq)
theorem rec_inv (c : Dev nD) (q : DmaSem sig) (hq : 4 ≤ q.val) : records m ρ K ⊢ cellInv ER (rd m ρ) (K (c, kk q)) (dCell c q) :=
  (rec_inv_at m ρ K (c, kk q)).trans (Entails.of_eq (by rw [kcell_kk c q hq]))
theorem rec_reach (c : Dev nD) (q : DmaSem sig) (hq : 4 ≤ q.val) : records m ρ K ⊢ reached ER (dCell c q) 0 :=
  (rec_reach_at m ρ K (c, kk q)).trans (Entails.of_eq (by rw [kcell_kk c q hq]))
theorem rec_inv_bar (c : Dev nD) : records m ρ K ⊢ cellInv ER (rd m ρ) (K (c, 0)) (barCell c) := rec_inv_at m ρ K (c, 0)
theorem rec_reach_bar (c : Dev nD) : records m ρ K ⊢ reached ER (barCell c) 0 := rec_reach_at m ρ K (c, 0)

end Cert.Moe

end
-- ==== Proof.Moves.lean ====
/-
The exchange's steps, one rule each: a pair of slots sent, a row of counts sent, a wait that closes its cell, a slot loaded.
-/
module

public import proofs.«01_k».proof.Proof.Schedule

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 19 → ℕ)

/-! ## Short names for what a device holds -/

set_option backward.proofsInPublic true in
abbrev Q (n : Fin 22) : DmaSem sig := n

def pos (c : Dev nD) (q : DmaSem sig) : sProp 𝕄 := atPos ER (dCell c q) 0 ∅ 0
def tok (c : Dev nD) (q : DmaSem sig) : sProp 𝕄 := dutyTok ER (dCell c q) 0 false
def crd (c : Dev nD) (q : DmaSem sig) : sProp 𝕄 := cred (tallyAt (dCell c q) () (amt q.val))
def fin (c : Dev nD) (q : DmaSem sig) : sProp 𝕄 := semVal (dCell c q) 0
def owed (c : Dev nD) (n : ℕ) : sProp 𝕄 := iprop(∃ W : Waits sig Unit, owes (c : Thread nD τ) (ow c n) W)
/-- What every step may use: the records and the levels. -/
def env : sProp 𝕄 := iprop(records m ρ K ∗ levAts L lv)
instance env_persistent : BI.Persistent (env m ρ K) := by unfold env; infer_instance

abbrev 𝒱₀ : Variants := Variants.none

/-! ## Where a window's elements lie -/

theorem set_wSl (a : ℕ) (h : ∀ x, (![a, 0, 0] : Fin 3 → ℕ) x + S2x512x1024.size x ≤ S16x512x1024.size x) : (wSl a h).view.set = slots a (a + 2) := set_wslice (n := 2) h
theorem set_cSl (r : ℕ) (o : Fin 3 → ℕ) (ho : o = ![r, 0, 0]) (h : ∀ x, o x + S1x8x128.size x ≤ S4x8x128.size x) : (cSl o h).view.set = row r := by subst ho; exact set_cslice h

theorem wSl_emb (a : ℕ) (h : ∀ x, (![a, 0, 0] : Fin 3 → ℕ) x + S2x512x1024.size x ≤ S16x512x1024.size x) (y : S2x512x1024.Idx) :
    (((wSl a h).view.emb y : S16x512x1024.Idx) 0).val = a + (y 0).val ∧ (((wSl a h).view.emb y : S16x512x1024.Idx) 1).val = (y 1).val
      ∧ (((wSl a h).view.emb y : S16x512x1024.Idx) 2).val = (y 2).val := by
  refine ⟨?_, ?_, ?_⟩
  · show a + 1 * (y 0).val = _; omega
  · show 0 + 1 * (y 1).val = _; omega
  · show 0 + 1 * (y 2).val = _; omega

theorem wallC_congr (c n : Dev nD) {i j : S16x512x1024.Idx} (h0 : (i 0).val % 4 = (j 0).val % 4)
    (hd : sh c ((i 0).val / 4) = sh n ((j 0).val / 4)) (h1 : (i 1).val = (j 1).val) (h2 : (i 2).val = (j 2).val) :
    wallC m ρ c i = wallC m ρ n j := by
  unfold wallC; rw [hd]; congr 1
  funext x
  match x with
  | ⟨0, _⟩ => exact Fin.ext h0
  | ⟨1, _⟩ => exact Fin.ext h1
  | ⟨2, _⟩ => exact Fin.ext h2

/-- A pair of slots `a` of device `c` written over the pair `b` of device `n` is what `n` should hold there, when the slots agree
    modulo four and name the same owner. -/
theorem wall_land (c n : Dev nD) (a b : ℕ) (ha : ∀ x, (![a, 0, 0] : Fin 3 → ℕ) x + S2x512x1024.size x ≤ S16x512x1024.size x) (hb : ∀ x, (![b, 0, 0] : Fin 3 → ℕ) x + S2x512x1024.size x ≤ S16x512x1024.size x) (fd : Buf (Elt F) ((n : Thread nD τ).loc cc0_scratch0))
    (h0 : ∀ k < 2, (a + k) % 4 = (b + k) % 4) (hd : ∀ k < 2, sh c ((a + k) / 4) = sh n ((b + k) / 4)) :
    ∀ i ∈ slots b (b + 2), (wSl b hb).view.write (Elt F) fd ((wSl a ha).view.read (Elt F) (wallC m ρ c)) Finset.univ i = wallC m ρ n i := by
  intro i hi
  rw [← set_wSl b hb] at hi
  obtain ⟨y, -, rfl⟩ := Finset.mem_map.mp hi
  rw [View.write_emb_of_mem _ _ (Finset.mem_univ y)]
  show wallC m ρ c ((wSl a ha).view.emb y) = _
  obtain ⟨a0, a1, a2⟩ := wSl_emb a ha y
  obtain ⟨b0, b1, b2⟩ := wSl_emb b hb y
  have hy : (y 0).val < 2 := (y 0).isLt
  exact wallC_congr m ρ c n (by rw [a0, b0]; exact h0 _ hy) (by rw [a0, b0]; exact hd _ hy) (a1.trans b1.symm) (a2.trans b2.symm)

theorem cnt_land (n : Dev nD) (r : ℕ) (o : Fin 3 → ℕ) (ho : o = ![r, 0, 0]) (h h' : ∀ x, o x + S1x8x128.size x ≤ S4x8x128.size x) (fd : Buf (Elt F) ((n : Thread nD τ).loc cc0_scratch1)) :
    ∀ i ∈ row r, (cSl o h).view.write (Elt F) fd ((cSl o h').view.read (Elt F) (cntC m ρ)) Finset.univ i = cntC m ρ i := by
  intro i hi
  rw [← set_cSl r o ho h] at hi
  obtain ⟨y, -, rfl⟩ := Finset.mem_map.mp hi
  rw [View.write_emb_of_mem _ _ (Finset.mem_univ y)]
  rfl

theorem credit_wSl (a : ℕ) (h : ∀ x, (![a, 0, 0] : Fin 3 → ℕ) x + S2x512x1024.size x ≤ S16x512x1024.size x) : (wSl a h).view.dmaCredit = Nw := rfl
theorem credit_cSl (o : Fin 3 → ℕ) (h : ∀ x, o x + S1x8x128.size x ≤ S4x8x128.size x) : (cSl o h).view.dmaCredit = Nc := rfl

/-! ## Sends -/

set_option maxHeartbeats 1000000 in
/-- A pair of slots sent to device `n = n'`: the landing due, the last of what is owed, is paid. -/
theorem wp_send_wall (c n n' : Dev nD) (hn : n' = n) (a b j : ℕ) (ha : ∀ x, (![a, 0, 0] : Fin 3 → ℕ) x + S2x512x1024.size x ≤ S16x512x1024.size x)
    (hb : ∀ x, (![b, 0, 0] : Fin 3 → ℕ) x + S2x512x1024.size x ≤ S16x512x1024.size x) (qs qr : DmaSem sig)
    {hsc : (wSl b hb : Memref sig (Dev.tc n' : Thread nD τ).2.kind .vmem S2x512x1024 .bf16).view.ref.isScScratch = false}
    {hsrc : (wSl a ha).view.WordExact} {hdst : (wSl b hb).view.WordExact}
    {hsem : DmaTarget.Typed .vmem (.dma qr) (.remote (Dev.tc n' : Thread nD τ) (wSl b hb) (.dma qs) hsc)}
    (h : 4 ≤ qs.val ∧ qs.val < 16 ∧ 4 ≤ qr.val ∧ qr.val < 16 ∧ lo qs.val = a ∧ lo qr.val = b ∧ shr qr.val = fullShare)
    (hj : ((dues c).getD j (barCell c, 0)) = (dCell n qr, Nw))
    (h0 : ∀ k < 2, (a + k) % 4 = (b + k) % 4) (hd : ∀ k < 2, sh c ((a + k) / 4) = sh n ((b + k) / 4))
    {α : Type} {Q' : α → sProp 𝕄} {k : PUnit → Prog (TpuEff nD τ sig (Elt F) Λ₀ .tc) α} :
    iprop(env m ρ K ∗ wPts c a (a + 2) (shr qs.val) (wallC m ρ c) ∗ (∃ f, wPts n b (b + 2) fullShare f) ∗ owed c (j + 1) ∗ tok c qs ∗ tok n qr)
      ⊢ iprop(((crd c qs ∗ owed c j) -∗ wp frame (wpE (defs₀ (F := F)) 𝒱₀ (c : Thread nD τ) none) Set.univ (k ⟨⟩) Q')
          -∗ wp frame (wpE (defs₀ (F := F)) 𝒱₀ (c : Thread nD τ) none) Set.univ
              (.op (.enqueueDma (wSl a ha) (.remote (Dev.tc n' : Thread nD τ) (wSl b hb) (.dma qs) hsc) (.dma qr) hsrc hdst hsem) k) Q') := by
  subst hn
  obtain ⟨h4, h16, h4', h16', rfl, rfl, hs⟩ := h
  unfold env owed tok crd
  iintro ⟨⟨#HR, -⟩, Hs, ⟨%fd, Hd⟩, ⟨%W, HO⟩, Ht, Ht'⟩ Hk
  have amtS : amt qs.val = Nw := if_pos h16
  have amtR : amt qr.val = Nw := if_pos h16'
  iapply (Rounds.wp_send_pointsTo 𝒱₀ ER (rd m ρ) (c : Thread nD τ) none (κ₁ := K (c, kk qs)) (κ₂ := K (n', kk qr))
    (r₁ := 0) (r₂ := 0) (d₁ := false) (d₂ := false) (q := shr qs.val) (fs := wallC m ρ c) (fd := fd)
    (by rw [duties_dma m ρ c qs h4]; exact Finset.mem_singleton_self _) (by rw [duties_dma m ρ n' qr h4']; exact Finset.mem_singleton_self _)
    () () Nw (show (wSl (lo qr.val) hb).view.amount (.dma qr) = Nw from credit_wSl _ hb) ((amount_dma m ρ c qs false).trans amtS) ((amount_dma m ρ n' qr false).trans amtR) (ow c j)
    (show ow c (j + 1) = _ by rw [ow, hj]) (W := W)
    (by rw [payload_dma]; unfold pay; rw [if_pos h16]; unfold wPts; rw [set_wSl])
    (by rw [payload_dma]; unfold pay; rw [if_pos h16', hs]; unfold wPts; rw [set_wSl]
        exact Entails.of_eq (pointsTo_congr (wall_land m ρ c n' _ _ ha hb fd h0 hd)))) $$ [Hs Hd HO Ht Ht']
  · isplitr; · iapply (rec_inv m ρ K c qs h4); iexact HR
    isplitr; · iapply (rec_inv m ρ K n' qr h4'); iexact HR
    isplitl [Hs]; · unfold wPts; rw [set_wSl]; iexact Hs
    isplitl [Hd]; · unfold wPts; rw [set_wSl]; iexact Hd
    isplitl [HO]; · iexact HO
    isplitl [Ht]; · iexact Ht
    isplitr; · iapply (rec_reach m ρ K c qs h4); iexact HR
    isplitl [Ht']; · iexact Ht'
    iapply (rec_reach m ρ K n' qr h4'); iexact HR
  iintro ⟨Hc, HO⟩
  iapply Hk
  rw [amtS]
  isplitl [Hc]; · iexact Hc
  iexists W; iexact HO

set_option maxHeartbeats 1000000 in
/-- A row of counts sent to device `n = n'`. -/
theorem wp_send_cnt (c n n' : Dev nD) (hn : n' = n) (r j : ℕ) (o : Fin 3 → ℕ) (ho : o = ![r, 0, 0]) (ha hb : ∀ x, o x + S1x8x128.size x ≤ S4x8x128.size x) (qs qr : DmaSem sig)
    {hsc : (cSl o hb : Memref sig (Dev.tc n' : Thread nD τ).2.kind .vmem S1x8x128 .f32).view.ref.isScScratch = false}
    {hsrc : (cSl o ha).view.WordExact} {hdst : (cSl o hb).view.WordExact}
    {hsem : DmaTarget.Typed .vmem (.dma qr) (.remote (Dev.tc n' : Thread nD τ) (cSl o hb) (.dma qs) hsc)}
    (h : 16 ≤ qs.val ∧ 16 ≤ qr.val ∧ (sh c (off qs.val)).val = r ∧ (sh n (off qr.val)).val = r)
    (hj : ((dues c).getD j (barCell c, 0)) = (dCell n qr, Nc))
    {α : Type} {Q' : α → sProp 𝕄} {k : PUnit → Prog (TpuEff nD τ sig (Elt F) Λ₀ .tc) α} :
    iprop(env m ρ K ∗ cPts c r (cntC m ρ) ∗ (∃ f, cPts n r f) ∗ owed c (j + 1) ∗ tok c qs ∗ tok n qr)
      ⊢ iprop(((crd c qs ∗ owed c j) -∗ wp frame (wpE (defs₀ (F := F)) 𝒱₀ (c : Thread nD τ) none) Set.univ (k ⟨⟩) Q')
          -∗ wp frame (wpE (defs₀ (F := F)) 𝒱₀ (c : Thread nD τ) none) Set.univ
              (.op (.enqueueDma (cSl o ha) (.remote (Dev.tc n' : Thread nD τ) (cSl o hb) (.dma qs) hsc) (.dma qr) hsrc hdst hsem) k) Q') := by
  subst hn
  obtain ⟨h16, h16', hr, hr'⟩ := h
  unfold env owed tok crd
  iintro ⟨⟨#HR, -⟩, Hs, ⟨%fd, Hd⟩, ⟨%W, HO⟩, Ht, Ht'⟩ Hk
  have n1 : ¬ qs.val < 16 := by omega
  have n2 : ¬ qr.val < 16 := by omega
  have amtS : amt qs.val = Nc := if_neg n1
  have amtR : amt qr.val = Nc := if_neg n2
  iapply (Rounds.wp_send_pointsTo 𝒱₀ ER (rd m ρ) (c : Thread nD τ) none (κ₁ := K (c, kk qs)) (κ₂ := K (n', kk qr))
    (r₁ := 0) (r₂ := 0) (d₁ := false) (d₂ := false) (q := fullShare) (fs := cntC m ρ) (fd := fd)
    (by rw [duties_dma m ρ c qs (by omega)]; exact Finset.mem_singleton_self _) (by rw [duties_dma m ρ n' qr (by omega)]; exact Finset.mem_singleton_self _)
    () () Nc (show (cSl o hb).view.amount (.dma qr) = Nc from credit_cSl o hb) ((amount_dma m ρ c qs false).trans amtS) ((amount_dma m ρ n' qr false).trans amtR) (ow c j)
    (show ow c (j + 1) = _ by rw [ow, hj]) (W := W)
    (by rw [payload_dma]; unfold pay; rw [if_neg n1, hr]; unfold cPts; rw [set_cSl r o ho])
    (by rw [payload_dma]; unfold pay; rw [if_neg n2, hr']; unfold cPts; rw [set_cSl r o ho]
        exact Entails.of_eq (pointsTo_congr (cnt_land m ρ n' r o ho hb ha fd)))) $$ [Hs Hd HO Ht Ht']
  · isplitr; · iapply (rec_inv m ρ K c qs (by omega)); iexact HR
    isplitr; · iapply (rec_inv m ρ K n' qr (by omega)); iexact HR
    isplitl [Hs]; · unfold cPts; rw [set_cSl r o ho]; iexact Hs
    isplitl [Hd]; · unfold cPts; rw [set_cSl r o ho]; iexact Hd
    isplitl [HO]; · iexact HO
    isplitl [Ht]; · iexact Ht
    isplitr; · iapply (rec_reach m ρ K c qs (by omega)); iexact HR
    isplitl [Ht']; · iexact Ht'
    iapply (rec_reach m ρ K n' qr (by omega)); iexact HR
  iintro ⟨Hc, HO⟩
  iapply Hk
  rw [amtS]
  isplitl [Hc]; · iexact Hc
  iexists W; iexact HO

/-! ## Waits -/

/-- A wait on a DMA cell while `n` landings are owed, all of higher levels: the cell closes, its payload comes. -/
theorem wp_wait (c : Dev nD) (q : DmaSem sig) (hq : 4 ≤ q.val) (n : ℕ) (hn : n ≤ 11) (hl : ∀ k < n, lvn q.val < dl k)
    {s : Shape} {e : EltTy} {src dst : Memref sig .tc .vmem s e} {hsrc : src.view.WordExact} {hdst : dst.view.WordExact} (hN : dst.view.dmaCredit = amt q.val)
    {α : Type} {Q' : α → sProp 𝕄} {k : PUnit → Prog (TpuEff nD τ sig (Elt F) Λ₀ .tc) α} :
    iprop(env m ρ K ∗ pos c q ∗ crd c q ∗ owed c n)
      ⊢ iprop(((fin c q ∗ pay m ρ c q.val ∗ owed c n) -∗ wp frame (wpE (defs₀ (F := F)) 𝒱₀ (c : Thread nD τ) none) Set.univ (k ⟨⟩) Q')
          -∗ wp frame (wpE (defs₀ (F := F)) 𝒱₀ (c : Thread nD τ) none) Set.univ (.op (.waitDma2 q src dst hsrc hdst) k) Q') := by
  unfold env pos crd owed fin
  iintro ⟨⟨#HR, #HL⟩, Hat, Hc, ⟨%W, HO⟩⟩ Hk
  ihave HI := (rec_inv m ρ K c q hq) $$ HR
  iapply (Rounds.wp_wait_rest_token 𝒱₀ ER (rd m ρ) (c : Thread nD τ) none (κ := K (c, kk q))
      (wpE_waitDma2_eq 𝒱₀ (c : Thread nD τ) none Set.univ) (Set.mem_univ _) () (O := ow c n) (W := W) (R := 0) (m := 0) (T := ∅)
      (by rw [Nat.zero_add, hN, expect_dma m ρ c q hq])) $$ [Hc HO Hat]
  · isplitr; · iapply (rec_inv m ρ K c q hq); iexact HR
    isplitl [Hc]; · rw [hN]; iexact Hc
    isplitl [HO]; · iexact HO
    isplitr; · iapply (mayWait_dma c q n hn hl); iexact HL
    iexact Hat
  iintro ⟨HO, Hat, -, Hpay⟩
  imod (Rounds.cell_close ER (rd m ρ) (Set.mem_univ (K (c, kk q))) (fun h => h) (R := 0 + 1) (duties_later m ρ (dCell c q))) $$ [Hat] with Hz
  · isplitr; · iapply (rec_inv m ρ K c q hq); iexact HR
    iexact Hat
  iapply Hk
  isplitl [Hz]; · iexact Hz
  isplitl [Hpay]; · iapply (Entails.of_eq (rest_dma m ρ c q hq)); iexact Hpay
  iexists _; iexact HO

/-! ## Loads -/

/-- What a load of slot `p` reads once it has arrived. -/
def wRd (c : Dev nD) (p : ℕ) (h : ∀ x, (![p, 0, 0] : Fin 3 → ℕ) x + S1x512x1024.size x ≤ S16x512x1024.size x) : S1x512x1024.Idx → Elt F .bf16 :=
  (wM : Memref sig .tc .vmem S16x512x1024 .bf16).view.readAt (Elt F) (Rect.unit (s := S16x512x1024) ![p, 0, 0] S1x512x1024.size h).toLoadRect (wallC m ρ c)

/-- A slot loaded from among slots `[a, b)`, at any share. -/
theorem wp_load_slot (c : Dev nD) (p a b : ℕ) (hab : a ≤ p ∧ p < b) (q : PosShare TreeShare)
    (h : ∀ x, (![p, 0, 0] : Fin 3 → ℕ) x + S1x512x1024.size x ≤ S16x512x1024.size x)
    {hl : (wM : Memref sig .tc .vmem S16x512x1024 .bf16).view.LoadsAt (Rect.unit (s := S16x512x1024) ![p, 0, 0] S1x512x1024.size h).toLoadRect}
    {α : Type} {Q' : α → sProp 𝕄} {k : (S1x512x1024.Idx → Elt F .bf16) → Prog (TpuEff nD τ sig (Elt F) Λ₀ .tc) α} :
    wPts c a b q (wallC m ρ c)
      ⊢ iprop((wPts c a b q (wallC m ρ c) -∗ wp frame (wpE (defs₀ (F := F)) 𝒱₀ (c : Thread nD τ) none) Set.univ (k (wRd m ρ c p h)) Q')
          -∗ wp frame (wpE (defs₀ (F := F)) 𝒱₀ (c : Thread nD τ) none) Set.univ
              (.op (.load wM (Rect.unit (s := S16x512x1024) ![p, 0, 0] S1x512x1024.size h).toLoadRect hl) k) Q') := by
  unfold wPts wRd
  refine wp_load 𝒱₀ (c : Thread nD τ) none Set.univ (m := wM) ?_
  intro i hi
  have hi' : i ∈ (Rect.unit (s := S16x512x1024) ![p, 0, 0] ![1, 512, 1024] h).set := by
    obtain ⟨y, hy, rfl⟩ := Finset.mem_map.mp hi
    exact hy
  have := (mem_rect_slots (n := 1) i).mp hi'
  simp only [slots, Finset.mem_filter, Finset.mem_univ, true_and] at this ⊢
  omega

end Cert.Moe

end
-- ==== Proof.Steps.lean ====
/-
The body's plain memory steps: the staged operands read, the result and the scratch rows written.

-/
module

public import proofs.«01_k».proof.Proof.Moves

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 19 → ℕ)

theorem sem4 : ((cc0_scratch2.slice (Rect.unit (s := S3) ![0] ![1] inb_S3_S1_0)).squeeze S_ squeezes_S1_S_).sem = Q 4 := rfl
theorem sem5 : ((cc0_scratch2.slice (Rect.unit (s := S3) ![1] ![1] inb_S3_S1_1)).squeeze S_ squeezes_S1_S_).sem = Q 5 := rfl
theorem sem6 : ((cc0_scratch2.slice (Rect.unit (s := S3) ![2] ![1] inb_S3_S1_2)).squeeze S_ squeezes_S1_S_).sem = Q 6 := rfl
theorem sem7 : ((cc0_scratch3.slice (Rect.unit (s := S3) ![0] ![1] inb_S3_S1_0)).squeeze S_ squeezes_S1_S_).sem = Q 7 := rfl
theorem sem8 : ((cc0_scratch3.slice (Rect.unit (s := S3) ![1] ![1] inb_S3_S1_1)).squeeze S_ squeezes_S1_S_).sem = Q 8 := rfl
theorem sem9 : ((cc0_scratch3.slice (Rect.unit (s := S3) ![2] ![1] inb_S3_S1_2)).squeeze S_ squeezes_S1_S_).sem = Q 9 := rfl
theorem sem10 : ((cc0_scratch4.slice (Rect.unit (s := S3) ![0] ![1] inb_S3_S1_0)).squeeze S_ squeezes_S1_S_).sem = Q 10 := rfl
theorem sem11 : ((cc0_scratch4.slice (Rect.unit (s := S3) ![1] ![1] inb_S3_S1_1)).squeeze S_ squeezes_S1_S_).sem = Q 11 := rfl
theorem sem12 : ((cc0_scratch4.slice (Rect.unit (s := S3) ![2] ![1] inb_S3_S1_2)).squeeze S_ squeezes_S1_S_).sem = Q 12 := rfl
theorem sem13 : ((cc0_scratch5.slice (Rect.unit (s := S3) ![0] ![1] inb_S3_S1_0)).squeeze S_ squeezes_S1_S_).sem = Q 13 := rfl
theorem sem14 : ((cc0_scratch5.slice (Rect.unit (s := S3) ![1] ![1] inb_S3_S1_1)).squeeze S_ squeezes_S1_S_).sem = Q 14 := rfl
theorem sem15 : ((cc0_scratch5.slice (Rect.unit (s := S3) ![2] ![1] inb_S3_S1_2)).squeeze S_ squeezes_S1_S_).sem = Q 15 := rfl
theorem sem16 : ((cc0_scratch6.slice (Rect.unit (s := S3) ![0] ![1] inb_S3_S1_0)).squeeze S_ squeezes_S1_S_).sem = Q 16 := rfl
theorem sem17 : ((cc0_scratch6.slice (Rect.unit (s := S3) ![1] ![1] inb_S3_S1_1)).squeeze S_ squeezes_S1_S_).sem = Q 17 := rfl
theorem sem18 : ((cc0_scratch6.slice (Rect.unit (s := S3) ![2] ![1] inb_S3_S1_2)).squeeze S_ squeezes_S1_S_).sem = Q 18 := rfl
theorem sem19 : ((cc0_scratch7.slice (Rect.unit (s := S3) ![0] ![1] inb_S3_S1_0)).squeeze S_ squeezes_S1_S_).sem = Q 19 := rfl
theorem sem20 : ((cc0_scratch7.slice (Rect.unit (s := S3) ![1] ![1] inb_S3_S1_1)).squeeze S_ squeezes_S1_S_).sem = Q 20 := rfl
theorem sem21 : ((cc0_scratch7.slice (Rect.unit (s := S3) ![2] ![1] inb_S3_S1_2)).squeeze S_ squeezes_S1_S_).sem = Q 21 := rfl

theorem off2_0 (c : Dev nD) : k0_off2 c 0#32 = ![c.val, 0, 0] := by
  refine (k0_off2_eq c 0).trans ?_
  have : ((c.val + 4) - (0 : Fin 3).val) % 4 = c.val := by have := c.isLt; show (c.val + 4 - 0) % 4 = c.val; revert c; decide
  rw [this]
theorem off2_1 (c : Dev nD) : k0_off2 c 1#32 = ![(sh c 3).val, 0, 0] := (k0_off2_eq c 1).trans (by revert c; decide)
theorem off2_2 (c : Dev nD) : k0_off2 c 2#32 = ![(sh c 2).val, 0, 0] := (k0_off2_eq c 2).trans (by revert c; decide)

/-- The staged operands and the result's buffer, held whole. -/
def stgX (c : Dev nD) : sProp 𝕄 := ((c : Thread nD τ).loc cc0_stg0_0) ↦{fullShare} xstg m ρ c
def stgI (c : Dev nD) : sProp 𝕄 := ((c : Thread nD τ).loc cc0_stg1_0) ↦{fullShare} istg m ρ c
def stgE (c : Dev nD) : sProp 𝕄 := ((c : Thread nD τ).loc cc0_stg2_0) ↦{fullShare} estg m ρ c
def outP (c : Dev nD) (f : Buf (Elt F) ((c : Thread nD τ).loc cc0_stg3_0)) : sProp 𝕄 := ((c : Thread nD τ).loc cc0_stg3_0) ↦{fullShare} f

omit [FloatOps F] in
theorem read_X (f : (cc0_stg0_0 : Ref sig .tc).ty.Contents (Elt F)) : (Memref.whole cc0_stg0_0 : Memref sig .tc .vmem S2048x512 .f32).view.readAt (Elt F) (Rect.unit (s := S2048x512) ![0, 0] S2048x512.size inb_S2048x512_S2048x512_0_0).toLoadRect f = f :=
  Memref.readAt_unit_zero (Elt F) cc0_stg0_0 (off := ![0, 0]) (by decide) _ f
omit [FloatOps F] in
theorem read_I (f : (cc0_stg1_0 : Ref sig .tc).ty.Contents (Elt F)) : (Memref.whole cc0_stg1_0 : Memref sig .tc .vmem S2048x1 .i32).view.readAt (Elt F) (Rect.unit (s := S2048x1) ![0, 0] S2048x1.size inb_S2048x1_S2048x1_0_0).toLoadRect f = f :=
  Memref.readAt_unit_zero (Elt F) cc0_stg1_0 (off := ![0, 0]) (by decide) _ f
omit [FloatOps F] in
theorem read_E (f : (cc0_stg2_0 : Ref sig .tc).ty.Contents (Elt F)) : (Memref.whole cc0_stg2_0 : Memref sig .tc .vmem S4x512x1024 .f32).view.readAt (Elt F) (Rect.unit (s := S4x512x1024) ![0, 0, 0] S4x512x1024.size inb_S4x512x1024_S4x512x1024_0_0_0).toLoadRect f = f :=
  Memref.readAt_unit_zero (Elt F) cc0_stg2_0 (off := ![0, 0, 0]) (by decide) _ f
omit [FloatOps F] in
theorem read_out (f : (cc0_stg3_0 : Ref sig .tc).ty.Contents (Elt F)) : (Memref.whole cc0_stg3_0 : Memref sig .tc .vmem S2048x1024 .f32).view.readAt (Elt F) (Rect.unit (s := S2048x1024) ![0, 0] S2048x1024.size inb_S2048x1024_S2048x1024_0_0).toLoadRect f = f :=
  Memref.readAt_unit_zero (Elt F) cc0_stg3_0 (off := ![0, 0]) (by decide) _ f
omit [FloatOps F] in
theorem write_out (f w : (cc0_stg3_0 : Ref sig .tc).ty.Contents (Elt F)) :
    (((Memref.whole cc0_stg3_0 : Memref sig .tc .vmem S2048x1024 .f32).access (Rect.unit (s := S2048x1024) ![0, 0] S2048x1024.size inb_S2048x1024_S2048x1024_0_0)) : View sig .tc _ _ _).write (Elt F) f w Finset.univ = w :=
  Memref.write_access_unit_zero_univ (Elt F) cc0_stg3_0 (off := ![0, 0]) (by decide) _ f w

/-- What the load of the counts reads: one row of each device. -/
def cRd : S4x1x128.Idx → Elt F .f32 :=
  (cM : Memref sig .tc .vmem S4x8x128 .f32).view.readAt (Elt F) (Rect.unit (s := S4x8x128) ![0, 0, 0] S4x1x128.size inb_S4x8x128_S4x1x128_0_0_0).toLoadRect (cntC m ρ)

theorem wallC_at (c n : Dev nD) (i : S16x512x1024.Idx) (y : S4x512x1024.Idx) (hd : sh c ((i 0).val / 4) = n) (h0 : (i 0).val % 4 = (y 0).val)
    (h1 : (i 1).val = (y 1).val) (h2 : (i 2).val = (y 2).val) : wallC m ρ c i = k0_pay3 (estg m ρ n) y := by
  unfold wallC; rw [hd]; congr 1
  funext x
  match x with
  | ⟨0, _⟩ => exact Fin.ext h0
  | ⟨1, _⟩ => exact Fin.ext h1
  | ⟨2, _⟩ => exact Fin.ext h2

theorem cntC_at (c : Dev nD) (i : S4x8x128.Idx) (y : S1x8x128.Idx) (h0 : (i 0).val = c.val) (h1 : (i 1).val = (y 1).val) (h2 : (i 2).val = (y 2).val) :
    cntC m ρ i = k0_pay2 (istg m ρ c) y := by
  have hd : (⟨(i 0).val, (i 0).isLt⟩ : Fin 4) = c := Fin.ext h0
  have hy : (y 0).val < 1 := (y 0).isLt
  unfold cntC
  refine (congrArg (fun d : Dev nD => k0_pay2 (istg m ρ d) _) hd).trans ?_
  congr 1
  funext x
  match x with
  | ⟨0, _⟩ => exact Fin.ext (by show 0 = (y 0).val; omega)
  | ⟨1, _⟩ => exact Fin.ext h1
  | ⟨2, _⟩ => exact Fin.ext h2

/-- The store of a device's own four experts makes slots `[0, 4)` what they should hold. -/
theorem wp_store_wall (c : Dev nD) (f : Buf (Elt F) ((c : Thread nD τ).loc cc0_scratch0)) {hx hm}
    {α : Type} {Q' : α → sProp 𝕄} {k : PUnit → Prog (TpuEff nD τ sig (Elt F) Λ₀ .tc) α} :
    wPts c 0 4 fullShare f
      ⊢ iprop((wPts c 0 4 fullShare (wallC m ρ c) -∗ wp frame (wpE (defs₀ (F := F)) 𝒱₀ (c : Thread nD τ) none) Set.univ (k ⟨⟩) Q')
          -∗ wp frame (wpE (defs₀ (F := F)) 𝒱₀ (c : Thread nD τ) none) Set.univ
              (.op (.store wM (Rect.unit (s := S16x512x1024) ![0, 0, 0] S4x512x1024.size inb_S16x512x1024_S4x512x1024_0_0_0) (k0_pay3 (estg m ρ c)) Finset.univ hx hm) k) Q') := by
  have hset : (wM.access (Rect.unit (s := S16x512x1024) ![0, 0, 0] S4x512x1024.size inb_S16x512x1024_S4x512x1024_0_0_0)).set = slots 0 4 := by
    show ((View.whole cc0_scratch0).slice _).set = _
    exact set_wslice (a := 0) (n := 4) _
  have hval : ∀ i ∈ slots 0 4, (wM.access (Rect.unit (s := S16x512x1024) ![0, 0, 0] S4x512x1024.size inb_S16x512x1024_S4x512x1024_0_0_0)).write (Elt F) f (k0_pay3 (estg m ρ c)) Finset.univ i = wallC m ρ c i := by
    intro i hi
    rw [← hset] at hi
    obtain ⟨y, -, rfl⟩ := Finset.mem_map.mp hi
    rw [View.write_emb_of_mem _ _ (Finset.mem_univ y)]
    show k0_pay3 (estg m ρ c) y = _
    have hy : (y 0).val < 4 := (y 0).isLt
    have e0 : (((wM.access (Rect.unit (s := S16x512x1024) ![0, 0, 0] S4x512x1024.size inb_S16x512x1024_S4x512x1024_0_0_0)).emb y : S16x512x1024.Idx) 0).val = (y 0).val := by
      show 0 + 1 * (y 0).val = _; omega
    refine (wallC_at m ρ c c _ y ?_ ?_ ?_ ?_).symm
    · rw [e0, Nat.div_eq_of_lt hy, sh_zero]
    · rw [e0, Nat.mod_eq_of_lt hy]
    · show 0 + 1 * (y 1).val = (y 1).val; omega
    · show 0 + 1 * (y 2).val = (y 2).val; omega
  unfold wPts
  iintro H Hk
  iapply (wp_store 𝒱₀ (c : Thread nD τ) none Set.univ (m := wM) (Mk := Finset.univ) (le_of_eq hset)) $$ H
  iintro H
  iapply Hk
  iapply (Entails.of_eq (pointsTo_congr hval)); iexact H

/-- The store of a device's own counts makes its row what it should hold. -/
theorem wp_store_cnt (c : Dev nD) (f : Buf (Elt F) ((c : Thread nD τ).loc cc0_scratch1)) {hx hm}
    {α : Type} {Q' : α → sProp 𝕄} {k : PUnit → Prog (TpuEff nD τ sig (Elt F) Λ₀ .tc) α} :
    cPts c c.val f
      ⊢ iprop((cPts c c.val (cntC m ρ) -∗ wp frame (wpE (defs₀ (F := F)) 𝒱₀ (c : Thread nD τ) none) Set.univ (k ⟨⟩) Q')
          -∗ wp frame (wpE (defs₀ (F := F)) 𝒱₀ (c : Thread nD τ) none) Set.univ
              (.op (.store cM (Rect.unit (s := S4x8x128) (k0_off1 c) S1x8x128.size (k0_off1_inb c)) (k0_pay2 (istg m ρ c)) Finset.univ hx hm) k) Q') := by
  have hset : (cM.access (Rect.unit (s := S4x8x128) (k0_off1 c) S1x8x128.size (k0_off1_inb c))).set = row c.val :=
    set_cSl c.val _ (k0_off1_eq c) _
  have hval : ∀ i ∈ row c.val, (cM.access (Rect.unit (s := S4x8x128) (k0_off1 c) S1x8x128.size (k0_off1_inb c))).write (Elt F) f (k0_pay2 (istg m ρ c)) Finset.univ i = cntC m ρ i := by
    intro i hi
    rw [← hset] at hi
    obtain ⟨y, -, rfl⟩ := Finset.mem_map.mp hi
    rw [View.write_emb_of_mem _ _ (Finset.mem_univ y)]
    show k0_pay2 (istg m ρ c) y = _
    have hy : (y 0).val < 1 := (y 0).isLt
    have ho := k0_off1_eq c
    have h0 : k0_off1 c 0 = c.val := congrFun ho 0
    have h1 : k0_off1 c 1 = 0 := congrFun ho 1
    have h2 : k0_off1 c 2 = 0 := congrFun ho 2
    refine (cntC_at m ρ c _ y ?_ ?_ ?_).symm
    · show k0_off1 c 0 + 1 * (y 0).val = c.val; omega
    · show k0_off1 c 1 + 1 * (y 1).val = (y 1).val; omega
    · show k0_off1 c 2 + 1 * (y 2).val = (y 2).val; omega
  unfold cPts
  iintro H Hk
  iapply (wp_store 𝒱₀ (c : Thread nD τ) none Set.univ (m := cM) (Mk := Finset.univ) (le_of_eq hset)) $$ H
  iintro H
  iapply Hk
  iapply (Entails.of_eq (pointsTo_congr hval)); iexact H

theorem wp_ldX (c : Dev nD)  {hl : (Memref.whole cc0_stg0_0 : Memref sig .tc .vmem S2048x512 .f32).view.LoadsAt (Rect.unit (s := S2048x512) ![0, 0] S2048x512.size inb_S2048x512_S2048x512_0_0).toLoadRect}
    {α : Type} {Q' : α → sProp 𝕄} {k : (S2048x512.Idx → Elt F .f32) → Prog (TpuEff nD τ sig (Elt F) Λ₀ .tc) α} :
    stgX m ρ c ⊢ iprop((stgX m ρ c -∗ wp frame (wpE (defs₀ (F := F)) 𝒱₀ (c : Thread nD τ) none) Set.univ (k (xstg m ρ c)) Q')
      -∗ wp frame (wpE (defs₀ (F := F)) 𝒱₀ (c : Thread nD τ) none) Set.univ (.op (.load (Memref.whole cc0_stg0_0) (Rect.unit (s := S2048x512) ![0, 0] S2048x512.size inb_S2048x512_S2048x512_0_0).toLoadRect hl) k) Q') := by
  unfold stgX
  rw [← show k (_) = k (_) from congrArg k (read_X (xstg m ρ c))]
  exact wp_load 𝒱₀ (c : Thread nD τ) none Set.univ (m := Memref.whole cc0_stg0_0) (Finset.subset_univ _)

theorem wp_ldI (c : Dev nD)  {hl : (Memref.whole cc0_stg1_0 : Memref sig .tc .vmem S2048x1 .i32).view.LoadsAt (Rect.unit (s := S2048x1) ![0, 0] S2048x1.size inb_S2048x1_S2048x1_0_0).toLoadRect}
    {α : Type} {Q' : α → sProp 𝕄} {k : (S2048x1.Idx → Elt F .i32) → Prog (TpuEff nD τ sig (Elt F) Λ₀ .tc) α} :
    stgI m ρ c ⊢ iprop((stgI m ρ c -∗ wp frame (wpE (defs₀ (F := F)) 𝒱₀ (c : Thread nD τ) none) Set.univ (k (istg m ρ c)) Q')
      -∗ wp frame (wpE (defs₀ (F := F)) 𝒱₀ (c : Thread nD τ) none) Set.univ (.op (.load (Memref.whole cc0_stg1_0) (Rect.unit (s := S2048x1) ![0, 0] S2048x1.size inb_S2048x1_S2048x1_0_0).toLoadRect hl) k) Q') := by
  unfold stgI
  rw [← show k (_) = k (_) from congrArg k (read_I (istg m ρ c))]
  exact wp_load 𝒱₀ (c : Thread nD τ) none Set.univ (m := Memref.whole cc0_stg1_0) (Finset.subset_univ _)

theorem wp_ldE (c : Dev nD)  {hl : (Memref.whole cc0_stg2_0 : Memref sig .tc .vmem S4x512x1024 .f32).view.LoadsAt (Rect.unit (s := S4x512x1024) ![0, 0, 0] S4x512x1024.size inb_S4x512x1024_S4x512x1024_0_0_0).toLoadRect}
    {α : Type} {Q' : α → sProp 𝕄} {k : (S4x512x1024.Idx → Elt F .f32) → Prog (TpuEff nD τ sig (Elt F) Λ₀ .tc) α} :
    stgE m ρ c ⊢ iprop((stgE m ρ c -∗ wp frame (wpE (defs₀ (F := F)) 𝒱₀ (c : Thread nD τ) none) Set.univ (k (estg m ρ c)) Q')
      -∗ wp frame (wpE (defs₀ (F := F)) 𝒱₀ (c : Thread nD τ) none) Set.univ (.op (.load (Memref.whole cc0_stg2_0) (Rect.unit (s := S4x512x1024) ![0, 0, 0] S4x512x1024.size inb_S4x512x1024_S4x512x1024_0_0_0).toLoadRect hl) k) Q') := by
  unfold stgE
  rw [← show k (_) = k (_) from congrArg k (read_E (estg m ρ c))]
  exact wp_load 𝒱₀ (c : Thread nD τ) none Set.univ (m := Memref.whole cc0_stg2_0) (Finset.subset_univ _)

theorem wp_ldO (c : Dev nD) (f0 : Buf (Elt F) ((c : Thread nD τ).loc cc0_stg3_0)) {hl : (Memref.whole cc0_stg3_0 : Memref sig .tc .vmem S2048x1024 .f32).view.LoadsAt (Rect.unit (s := S2048x1024) ![0, 0] S2048x1024.size inb_S2048x1024_S2048x1024_0_0).toLoadRect}
    {α : Type} {Q' : α → sProp 𝕄} {k : (S2048x1024.Idx → Elt F .f32) → Prog (TpuEff nD τ sig (Elt F) Λ₀ .tc) α} :
    outP c f0 ⊢ iprop((outP c f0 -∗ wp frame (wpE (defs₀ (F := F)) 𝒱₀ (c : Thread nD τ) none) Set.univ (k (f0)) Q')
      -∗ wp frame (wpE (defs₀ (F := F)) 𝒱₀ (c : Thread nD τ) none) Set.univ (.op (.load (Memref.whole cc0_stg3_0) (Rect.unit (s := S2048x1024) ![0, 0] S2048x1024.size inb_S2048x1024_S2048x1024_0_0).toLoadRect hl) k) Q') := by
  unfold outP
  rw [← show k (_) = k (_) from congrArg k (read_out f0)]
  exact wp_load 𝒱₀ (c : Thread nD τ) none Set.univ (m := Memref.whole cc0_stg3_0) (Finset.subset_univ _)

theorem wp_stO (c : Dev nD) (f0 w : Buf (Elt F) ((c : Thread nD τ).loc cc0_stg3_0)) {hx hm}
    {α : Type} {Q' : α → sProp 𝕄} {k : PUnit → Prog (TpuEff nD τ sig (Elt F) Λ₀ .tc) α} :
    outP c f0 ⊢ iprop((outP c w -∗ wp frame (wpE (defs₀ (F := F)) 𝒱₀ (c : Thread nD τ) none) Set.univ (k ⟨⟩) Q')
      -∗ wp frame (wpE (defs₀ (F := F)) 𝒱₀ (c : Thread nD τ) none) Set.univ (.op (.store (Memref.whole cc0_stg3_0) (Rect.unit (s := S2048x1024) ![0, 0] S2048x1024.size inb_S2048x1024_S2048x1024_0_0) w Finset.univ hx hm) k) Q') := by
  unfold outP
  iintro H Hk
  iapply (wp_store 𝒱₀ (c : Thread nD τ) none Set.univ (m := (Memref.whole cc0_stg3_0 : Memref sig .tc .vmem S2048x1024 .f32)) (r := Rect.unit (s := S2048x1024) ![0, 0] S2048x1024.size inb_S2048x1024_S2048x1024_0_0) (w := w) (Mk := Finset.univ) (f := f0) (Finset.subset_univ _)) $$ H
  iintro H
  iapply Hk
  iapply (Entails.of_eq (congrArg (fun g => (((c : Thread nD τ).loc cc0_stg3_0) ↦{fullShare} g : sProp 𝕄)) (write_out f0 w))); iexact H

/-- All the counts, whole. -/
def cAll (c : Dev nD) : sProp 𝕄 := ((c : Thread nD τ).loc cc0_scratch1) ↦{fullShare} cntC m ρ

theorem wp_ldC (c : Dev nD) {hl}
    {α : Type} {Q' : α → sProp 𝕄} {k : (S4x1x128.Idx → Elt F .f32) → Prog (TpuEff nD τ sig (Elt F) Λ₀ .tc) α} :
    cAll m ρ c ⊢ iprop((cAll m ρ c -∗ wp frame (wpE (defs₀ (F := F)) 𝒱₀ (c : Thread nD τ) none) Set.univ (k (cRd m ρ)) Q')
      -∗ wp frame (wpE (defs₀ (F := F)) 𝒱₀ (c : Thread nD τ) none) Set.univ (.op (.load cM (Rect.unit (s := S4x8x128) ![0, 0, 0] S4x1x128.size inb_S4x8x128_S4x1x128_0_0_0).toLoadRect hl) k) Q') := by
  unfold cAll cRd
  exact wp_load 𝒱₀ (c : Thread nD τ) none Set.univ (m := cM) (Finset.subset_univ _)

theorem wp_ldRow (c : Dev nD) (f : Buf (Elt F) ((c : Thread nD τ).loc cc0_scratch1)) {hl}
    {α : Type} {Q' : α → sProp 𝕄} {k : (S1x8x128.Idx → Elt F .f32) → Prog (TpuEff nD τ sig (Elt F) Λ₀ .tc) α} :
    cPts c c.val f ⊢ iprop((cPts c c.val f -∗ wp frame (wpE (defs₀ (F := F)) 𝒱₀ (c : Thread nD τ) none) Set.univ
        (k (cM.view.readAt (Elt F) (Rect.unit (s := S4x8x128) (k0_off1 c) S1x8x128.size (k0_off1_inb c)).toLoadRect f)) Q')
      -∗ wp frame (wpE (defs₀ (F := F)) 𝒱₀ (c : Thread nD τ) none) Set.univ (.op (.load cM (Rect.unit (s := S4x8x128) (k0_off1 c) S1x8x128.size (k0_off1_inb c)).toLoadRect hl) k) Q') := by
  unfold cPts
  refine wp_load 𝒱₀ (c : Thread nD τ) none Set.univ (m := cM) ?_
  intro i hi
  obtain ⟨y, hy, rfl⟩ := Finset.mem_map.mp hi
  have h0 : k0_off1 c = ![c.val, 0, 0] := k0_off1_eq c
  have hk := (Rect.mem_set_unit.mp hy) 0
  have h1 : k0_off1 c 0 = c.val := congrFun h0 0
  simp only [row, Finset.mem_filter, Finset.mem_univ, true_and]
  have h2 : k0_off1 c 0 ≤ (y 0).val ∧ (y 0).val < k0_off1 c 0 + 1 := hk
  show (y 0).val = c.val
  omega

theorem load04 (c : Dev nD) : (wM : Memref sig .tc .vmem S16x512x1024 .bf16).view.setOn (Rect.unit (s := S16x512x1024) ![0, 0, 0] S4x512x1024.size inb_S16x512x1024_S4x512x1024_0_0_0).toLoadRect.set ⊆ slots 0 4 := by
  intro i hi
  obtain ⟨y, hy, rfl⟩ := Finset.mem_map.mp hi
  exact (mem_rect_slots (a := 0) (n := 4) _).mp hy

theorem wp_ld04 (c : Dev nD) (f : Buf (Elt F) ((c : Thread nD τ).loc cc0_scratch0)) {hl}
    {α : Type} {Q' : α → sProp 𝕄} {k : (S4x512x1024.Idx → Elt F .bf16) → Prog (TpuEff nD τ sig (Elt F) Λ₀ .tc) α} :
    wPts c 0 4 fullShare f ⊢ iprop((wPts c 0 4 fullShare f -∗ wp frame (wpE (defs₀ (F := F)) 𝒱₀ (c : Thread nD τ) none) Set.univ
        (k (wM.view.readAt (Elt F) (Rect.unit (s := S16x512x1024) ![0, 0, 0] S4x512x1024.size inb_S16x512x1024_S4x512x1024_0_0_0).toLoadRect f)) Q')
      -∗ wp frame (wpE (defs₀ (F := F)) 𝒱₀ (c : Thread nD τ) none) Set.univ (.op (.load wM (Rect.unit (s := S16x512x1024) ![0, 0, 0] S4x512x1024.size inb_S16x512x1024_S4x512x1024_0_0_0).toLoadRect hl) k) Q') := by
  unfold wPts
  exact wp_load 𝒱₀ (c : Thread nD τ) none Set.univ (m := wM) (load04 c)

theorem own_0_12 : ∀ c : Dev nD, ∀ k < 2, sh c ((0 + k) / 4) = sh (sh c 1) ((12 + k) / 4) := by decide
theorem own_2_6 : ∀ c : Dev nD, ∀ k < 2, sh c ((2 + k) / 4) = sh (sh c 3) ((6 + k) / 4) := by decide
theorem own_2_14 : ∀ c : Dev nD, ∀ k < 2, sh c ((2 + k) / 4) = sh (sh c 1) ((14 + k) / 4) := by decide
theorem own_0_4 : ∀ c : Dev nD, ∀ k < 2, sh c ((0 + k) / 4) = sh (sh c 3) ((4 + k) / 4) := by decide
theorem own_12_8 : ∀ c : Dev nD, ∀ k < 2, sh c ((12 + k) / 4) = sh (sh c 1) ((8 + k) / 4) := by decide
theorem own_6_10 : ∀ c : Dev nD, ∀ k < 2, sh c ((6 + k) / 4) = sh (sh c 3) ((10 + k) / 4) := by decide

end Cert.Moe

end
-- ==== Proof.PartOne.lean ====
/-
The body's start: the barrier with both neighbours, and the device's own counts.
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 19 → ℕ)

/-- The device's position on the ring, as the program computes it. -/
def v2v (c : Dev nD) : BitVec 32 := Scalar.remsi (Scalar.divsi (Dev.word c) 1#32) 4#32
/-- Its left neighbour's position. -/
def v5v (c : Dev nD) : BitVec 32 := Scalar.remsi (Scalar.subi (Scalar.addi (v2v c) 4#32) 1#32) 4#32
/-- Its right neighbour's position. -/
def v7v (c : Dev nD) : BitVec 32 := Scalar.remsi (Scalar.addi (v2v c) 1#32) 4#32
/-- The opposite device's position. -/
def v9v (c : Dev nD) : BitVec 32 := Scalar.remsi (Scalar.addi (v2v c) 2#32) 4#32

/-- The places on `c` that its left neighbour writes. -/
def giveL (c : Dev nD) : sProp 𝕄 :=
  iprop((∃ f, wPts c 12 14 fullShare f) ∗ (∃ f, wPts c 14 16 fullShare f) ∗ (∃ f, wPts c 8 10 fullShare f)
    ∗ (∃ f, cPts c (sh c 3).val f) ∗ (∃ f, cPts c (sh c 2).val f) ∗ (∃ f, cPts c (sh c 1).val f))
/-- The places on `c` that its right neighbour writes. -/
def giveR (c : Dev nD) : sProp 𝕄 :=
  iprop((∃ f, wPts c 6 8 fullShare f) ∗ (∃ f, wPts c 4 6 fullShare f) ∗ (∃ f, wPts c 10 12 fullShare f))

omit [FloatOps F] in
theorem giveL_eq (c : Dev nD) : giveL (F := F) c ⊢ barR (sh c 3) := by
  unfold barR giveL
  rw [show sh (sh c 3) 1 = c from sh_31 c, show sh (sh c 3) 3 = sh c 2 by revert c; decide, show sh (sh c 3) 2 = sh c 1 by revert c; decide]
omit [FloatOps F] in
theorem giveR_eq (c : Dev nD) : giveR (F := F) c ⊢ barL (sh c 1) := by
  unfold barL giveR
  rw [show sh (sh c 1) 3 = c from sh_13 c]

set_option maxHeartbeats 1000000 in
/-- The barrier: each neighbour is told which places it may write, and tells the same; then the device's own counts are
    stored. -/
theorem part1 (c : Dev nD) (Kt : (Σ' (d0 : Dev nD) (v2 : BitVec 32) (v5 : BitVec 32) (v7 : BitVec 32) (v9 : BitVec 32) (v21 : FVec F S2048x128 .f32), BitVec 32) → sProp 𝕄) :
    iprop((env m ρ K ∗ owed c 11 ∗ dutyTok ER (barCell (sh c 3)) 0 true ∗ dutyTok ER (barCell (sh c 1)) 0 false ∗ atPos ER (barCell c) 0 ∅ 0
        ∗ cred (tallyAt (barCell c) () 2) ∗ giveL c ∗ giveR c ∗ stgI m ρ c ∗ (∃ f, cPts c c.val f))
      ∗ ((owed c 9 ∗ semVal (barCell c) 0 ∗ barL c ∗ barR c ∗ stgI m ρ c ∗ cPts c c.val (cntC m ρ))
        -∗ Kt ⟨c, v2v c, v5v c, v7v c, v9v c, k0_pay1 (istg m ρ c), Scalar.subi (v2v c) 0#32⟩))
    ⊢ wp frame (wpE (defs₀ (F := F)) 𝒱₀ (c : Thread nD τ) none) Set.univ
        (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) Kt := by
  simp only [k0_part1_eq_skeleton]; unfold k0_part1_skel
  simp only [semSignalWord, semWaitWord, Prog.lift, Prog.bind_op, Prog.bind_ret, Prog.pure_eq_ret, Prog.bind_assoc, wp_deviceId]
  iintro ⟨⟨#HE, HO, HtL, HtR, Hat, Hcr, HgL, HgR, Hi, Hr⟩, Hk⟩
  icases Hr with ⟨%f, Hr⟩
  unfold owed
  icases HO with ⟨%W, HO⟩
  ihave #HR := (show env m ρ K ⊢ records m ρ K by unfold env; exact sep_elim_left) $$ HE
  ihave #HL := (show env m ρ K ⊢ levAts L lv by unfold env; exact sep_elim_right) $$ HE
  simp only [dev1_eq, dev2_eq]
  iapply (Rounds.wp_signal 𝒱₀ ER (rd m ρ) (c : Thread nD τ) none (dst := (sh c 3 : Thread nD τ)) (κ := K (sh c 3, 0)) (d := true)
      (by rw [duties_bar]; exact Finset.mem_univ _) ((amount_bar m ρ _ _).trans (by decide)) () (ow c 10) rfl) $$ [HO HtL HgL]
  · isplitr; · iapply (rec_inv_bar m ρ K (sh c 3)); iexact HR
    isplitl [HO]; · iexact HO
    isplitl [HtL]; · iexact HtL
    isplitl [HgL]
    · rw [payload_bar_true]; iapply (giveL_eq c); iexact HgL
    iapply (rec_reach_bar m ρ K (sh c 3)); iexact HR
  iintro HO
  iapply (Rounds.wp_signal 𝒱₀ ER (rd m ρ) (c : Thread nD τ) none (dst := (sh c 1 : Thread nD τ)) (κ := K (sh c 1, 0)) (d := false)
      (by rw [duties_bar]; exact Finset.mem_univ _) ((amount_bar m ρ _ _).trans (by decide)) () (ow c 9) rfl) $$ [HO HtR HgR]
  · isplitr; · iapply (rec_inv_bar m ρ K (sh c 1)); iexact HR
    isplitl [HO]; · iexact HO
    isplitl [HtR]; · iexact HtR
    isplitl [HgR]
    · rw [payload_bar_false]; iapply (giveR_eq c); iexact HgR
    iapply (rec_reach_bar m ρ K (sh c 1)); iexact HR
  iintro HO
  iapply (Rounds.wp_wait_rest_token 𝒱₀ ER (rd m ρ) (c : Thread nD τ) none (κ := K (c, 0)) (wpE_semWait_eq 𝒱₀ (c : Thread nD τ) none Set.univ) (Set.mem_univ _) () (O := ow c 9) (W := W) (R := 0) (m := 0) (T := ∅)
      (by rw [expect_bar]; decide)) $$ [Hcr HO Hat]
  · isplitr; · iapply (rec_inv_bar m ρ K c); iexact HR
    isplitl [Hcr]; · iexact Hcr
    isplitl [HO]; · iexact HO
    isplitr; · iapply (mayWait_bar (F := F) c); iexact HL
    iexact Hat
  iintro ⟨HO, Hat, -, Hp⟩
  ihave Hp := (Entails.of_eq (rest_bar m ρ c)) $$ Hp
  icases Hp with ⟨HpL, HpR⟩
  imod (Rounds.cell_close ER (rd m ρ) (κ := K (c, 0)) (Set.mem_univ _) (fun h => h) (R := 0 + 1) (duties_later m ρ (barCell c))) $$ [Hat] with Hz
  · isplitr; · iapply (rec_inv_bar m ρ K c); iexact HR
    iexact Hat
  iapply (wp_ldI m ρ c) $$ Hi; iintro Hi
  iapply (wp_ldRow c f) $$ Hr; iintro Hr
  iapply (wp_store_cnt m ρ c f) $$ Hr; iintro Hr
  rw [wp_ret]; imodintro
  unfold v5v v7v v9v v2v
  iapply Hk
  isplitl [HO]; · iexists _; iexact HO
  isplitl [Hz]; · iexact Hz
  isplitl [HpL]; · iexact HpL
  isplitl [HpR]; · iexact HpR
  isplitl [Hi]; · iexact Hi
  iexact Hr

end Cert.Moe

end
-- ==== Proof.PartsA.lean ====
/-
The body's first half: the sends, the own experts' product, the neighbours' first arrivals.
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 19 → ℕ)

set_option maxHeartbeats 1000000 in
/-- The counts go right. -/
theorem part2 (c : Dev nD) (v2 v7 v31 : BitVec 32) (Kt : PUnit → sProp 𝕄) :
    iprop((env m ρ K ∗ cPts c c.val (cntC m ρ) ∗ (∃ f, cPts (sh c 1) c.val f) ∗ owed c 9 ∗ tok c (Q 16) ∗ tok (sh c 1) (Q 19))
      ∗ ((owed c 8 ∗ crd c (Q 16))
        -∗ Kt ⟨⟩))
    ⊢ wp frame (wpE (defs₀ (F := F)) 𝒱₀ (c : Thread nD τ) none) Set.univ
        (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v7 v31) Kt := by
  simp only [k0_part2_eq_skeleton]; unfold k0_part2_skel
  simp only [semSignalWord, semWaitWord, Prog.lift, Prog.bind_op, Prog.bind_ret, Prog.pure_eq_ret, Prog.bind_assoc, wp_deviceId]
  simp only [sem16, sem19]
  iintro ⟨⟨#HE, Hr0, HRC0, HO, Ht16, Ht19⟩, Hk⟩
  iapply (wp_send_cnt m ρ K c (sh c 1) _ (dev3_eq c) c.val 8 _ (off2_0 c) _ _ (Q 16) (Q 19) ⟨by decide, by decide, by rw [show off (Q 16).val = 0 from rfl, sh_zero], by rw [show off (Q 19).val = 3 from rfl, sh_sh]; exact congrArg Fin.val (sh_four c)⟩ rfl)
      $$ [Hr0 HRC0 HO Ht16 Ht19]
  · isplitr; · iexact HE
    isplitl [Hr0]; · iexact Hr0
    isplitl [HRC0]; · iexact HRC0
    isplitl [HO]; · iexact HO
    isplitl [Ht16]; · iexact Ht16
    iexact Ht19
  iintro ⟨Hc16, HO⟩
  rw [wp_ret]; imodintro
  iapply Hk
  isplitl [HO]; · iexact HO
  iexact Hc16

set_option maxHeartbeats 1000000 in
/-- The own experts are stored, then the first pair goes right and the second left. -/
theorem part3 (c : Dev nD) (v5 v7 : BitVec 32) (Kt : PUnit → sProp 𝕄) :
    iprop((env m ρ K ∗ stgE m ρ c ∗ (∃ f, wPts c 0 4 fullShare f) ∗ (∃ f, wPts (sh c 1) 12 14 fullShare f) ∗ (∃ f, wPts (sh c 3) 6 8 fullShare f) ∗ owed c 8 ∗ tok c (Q 4) ∗ tok (sh c 1) (Q 7) ∗ tok c (Q 10) ∗ tok (sh c 3) (Q 13))
      ∗ ((stgE m ρ c ∗ owed c 6 ∗ wPts c 0 2 fullShare.right (wallC m ρ c) ∗ crd c (Q 4) ∗ wPts c 2 4 fullShare.right (wallC m ρ c) ∗ crd c (Q 10))
        -∗ Kt ⟨⟩))
    ⊢ wp frame (wpE (defs₀ (F := F)) 𝒱₀ (c : Thread nD τ) none) Set.univ
        (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7) Kt := by
  simp only [k0_part3_eq_skeleton]; unfold k0_part3_skel
  simp only [semSignalWord, semWaitWord, Prog.lift, Prog.bind_op, Prog.bind_ret, Prog.pure_eq_ret, Prog.bind_assoc, wp_deviceId]
  simp only [sem4, sem7, sem10, sem13]
  iintro ⟨⟨#HE, He, Hw, HR12, HL6, HO, Ht4, Ht7, Ht10, Ht13⟩, Hk⟩
  icases Hw with ⟨%f, Hw⟩
  iapply (wp_ldE m ρ c) $$ He; iintro He
  iapply (wp_ld04 c f) $$ Hw; iintro Hw
  iapply (wp_store_wall m ρ c f) $$ Hw; iintro Hw
  icases (wPts_split c 0 2 4 (by decide) (by decide) fullShare (wallC m ρ c)).1 $$ Hw with ⟨Hw0f, Hw2f⟩
  icases (wPts_half c 0 2 fullShare (wallC m ρ c)).1 $$ Hw0f with ⟨Hw0l, Hw0r⟩
  iapply (wp_send_wall m ρ K c (sh c 1) _ (dev4_eq c) 0 12 7 _ _ (Q 4) (Q 7) ⟨by decide, by decide, by decide, by decide, rfl, rfl, rfl⟩ rfl
      (by decide) (own_0_12 c)) $$ [Hw0l HR12 HO Ht4 Ht7]
  · isplitr; · iexact HE
    isplitl [Hw0l]; · iexact Hw0l
    isplitl [HR12]; · iexact HR12
    isplitl [HO]; · iexact HO
    isplitl [Ht4]; · iexact Ht4
    iexact Ht7
  iintro ⟨Hc4, HO⟩
  icases (wPts_half c 2 4 fullShare (wallC m ρ c)).1 $$ Hw2f with ⟨Hw2l, Hw2r⟩
  iapply (wp_send_wall m ρ K c (sh c 3) _ (dev5_eq c) 2 6 6 _ _ (Q 10) (Q 13) ⟨by decide, by decide, by decide, by decide, rfl, rfl, rfl⟩ rfl
      (by decide) (own_2_6 c)) $$ [Hw2l HL6 HO Ht10 Ht13]
  · isplitr; · iexact HE
    isplitl [Hw2l]; · iexact Hw2l
    isplitl [HL6]; · iexact HL6
    isplitl [HO]; · iexact HO
    isplitl [Ht10]; · iexact Ht10
    iexact Ht13
  iintro ⟨Hc10, HO⟩
  rw [wp_ret]; imodintro
  iapply Hk
  isplitl [He]; · iexact He
  isplitl [HO]; · iexact HO
  isplitl [Hw0r]; · iexact Hw0r
  isplitl [Hc4]; · iexact Hc4
  isplitl [Hw2r]; · iexact Hw2r
  iexact Hc10

set_option maxHeartbeats 1000000 in
/-- The second pair goes right and the first left. -/
theorem part4 (c : Dev nD) (v5 : BitVec 32) (v21 : FVec F S2048x128 .f32) (Kt : (Σ' (v98 : IVec S2048x128 32) (v116 : FVec F S2048x128 .f32) (v117 : FVec F S2048x128 .f32) (v119 : IVec S2048x128 1), F .f32) → sProp 𝕄) :
    iprop((env m ρ K ∗ wPts c 0 2 fullShare.right (wallC m ρ c) ∗ wPts c 2 4 fullShare.right (wallC m ρ c) ∗ (∃ f, wPts (sh c 1) 14 16 fullShare f) ∗ (∃ f, wPts (sh c 3) 4 6 fullShare f) ∗ owed c 6 ∗ tok c (Q 5) ∗ tok (sh c 1) (Q 8) ∗ tok c (Q 11) ∗ tok (sh c 3) (Q 14))
      ∗ ((owed c 4 ∗ wPts c 2 4 fullShare.right.right (wallC m ρ c) ∗ crd c (Q 5) ∗ wPts c 0 2 fullShare.right.right (wallC m ρ c) ∗ crd c (Q 11))
        -∗ Kt ⟨iota .tc S2048x128 32 [0] iota_S2048x128_d0_w32, k0_pay4 v21, k0_pay5 v21, k0_pay6, Scalar.ofBits .f32 0x00000000#32⟩))
    ⊢ wp frame (wpE (defs₀ (F := F)) 𝒱₀ (c : Thread nD τ) none) Set.univ
        (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v21) Kt := by
  simp only [k0_part4_eq_skeleton]; unfold k0_part4_skel
  simp only [semSignalWord, semWaitWord, Prog.lift, Prog.bind_op, Prog.bind_ret, Prog.pure_eq_ret, Prog.bind_assoc, wp_deviceId]
  simp only [sem5, sem8, sem11, sem14]
  iintro ⟨⟨#HE, Hw0r, Hw2r, HR14, HL4, HO, Ht5, Ht8, Ht11, Ht14⟩, Hk⟩
  icases (wPts_half c 2 4 fullShare.right (wallC m ρ c)).1 $$ Hw2r with ⟨Hw2rl, Hw2rr⟩
  iapply (wp_send_wall m ρ K c (sh c 1) _ (dev6_eq c) 2 14 5 _ _ (Q 5) (Q 8) ⟨by decide, by decide, by decide, by decide, rfl, rfl, rfl⟩ rfl
      (by decide) (own_2_14 c)) $$ [Hw2rl HR14 HO Ht5 Ht8]
  · isplitr; · iexact HE
    isplitl [Hw2rl]; · iexact Hw2rl
    isplitl [HR14]; · iexact HR14
    isplitl [HO]; · iexact HO
    isplitl [Ht5]; · iexact Ht5
    iexact Ht8
  iintro ⟨Hc5, HO⟩
  icases (wPts_half c 0 2 fullShare.right (wallC m ρ c)).1 $$ Hw0r with ⟨Hw0rl, Hw0rr⟩
  iapply (wp_send_wall m ρ K c (sh c 3) _ (dev7_eq c) 0 4 4 _ _ (Q 11) (Q 14) ⟨by decide, by decide, by decide, by decide, rfl, rfl, rfl⟩ rfl
      (by decide) (own_0_4 c)) $$ [Hw0rl HL4 HO Ht11 Ht14]
  · isplitr; · iexact HE
    isplitl [Hw0rl]; · iexact Hw0rl
    isplitl [HL4]; · iexact HL4
    isplitl [HO]; · iexact HO
    isplitl [Ht11]; · iexact Ht11
    iexact Ht14
  iintro ⟨Hc11, HO⟩
  rw [wp_ret]; imodintro
  iapply Hk
  isplitl [HO]; · iexact HO
  isplitl [Hw2rr]; · iexact Hw2rr
  isplitl [Hc5]; · iexact Hc5
  isplitl [Hw0rr]; · iexact Hw0rr
  iexact Hc11

set_option maxHeartbeats 1000000 in
/-- No memory is touched. -/
theorem part5 (c : Dev nD) (v98 : IVec S2048x128 32) (v116 v117 : FVec F S2048x128 .f32) (v119 : IVec S2048x128 1) (cst : F .f32) (Kt : (Σ' (v158 : FVec F S2048x128 .f32) (v159 : FVec F S2048x128 .f32), BitVec 32) → sProp 𝕄) :
    Kt ⟨k0_pay7 v98 v116 v117 v119 cst, k0_pay8 v98 v116 v117 v119 cst, 1024#32⟩
    ⊢ wp frame (wpE (defs₀ (F := F)) 𝒱₀ (c : Thread nD τ) none) Set.univ
        (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 v98 v116 v117 v119 cst) Kt := by
  simp only [k0_part5_eq_skeleton]; unfold k0_part5_skel
  iintro Hk
  rw [Prog.pure_eq_ret, wp_ret]; imodintro; iexact Hk

set_option maxHeartbeats 1000000 in
/-- The own tokens, their experts and the own first two experts are read. -/
theorem part6 (c : Dev nD) (v2 : BitVec 32) (v21 : FVec F S2048x128 .f32) (v98 : IVec S2048x128 32) (v158 v159 : FVec F S2048x128 .f32) (n1024 : BitVec 32) (Kt : (Σ' (v165 : FVec F S2048x128 .f32) (v168 : FVec F S2048x512 .bf16) (v170 : IVec S2048x1 32) (v195 : FVec F S2048x1024 .f32), IVec S2048x1 32) → sProp 𝕄) :
    iprop((stgX m ρ c ∗ stgI m ρ c ∗ wPts c 0 2 fullShare.right.right (wallC m ρ c))
      ∗ ((stgX m ρ c ∗ stgI m ρ c ∗ wPts c 0 2 fullShare.right.right (wallC m ρ c))
        -∗ Kt ⟨k0_pay9 v21 v98 v158 v159 n1024, k0_pay10 (xstg m ρ c), k0_pay11 (istg m ρ c), k0_pay12 v2 (xstg m ρ c) (istg m ρ c) (wRd m ρ c 0 inb_S16x512x1024_S1x512x1024_0_0_0) (wRd m ρ c 1 inb_S16x512x1024_S1x512x1024_1_0_0), k0_pay13 v2 (istg m ρ c)⟩))
    ⊢ wp frame (wpE (defs₀ (F := F)) 𝒱₀ (c : Thread nD τ) none) Set.univ
        (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 v2 v21 v98 v158 v159 n1024) Kt := by
  simp only [k0_part6_eq_skeleton]; unfold k0_part6_skel
  simp only [semSignalWord, semWaitWord, Prog.lift, Prog.bind_op, Prog.bind_ret, Prog.pure_eq_ret, Prog.bind_assoc, wp_deviceId]
  iintro ⟨⟨Hx, Hi, Hw0rr⟩, Hk⟩
  iapply (wp_ldX m ρ c) $$ Hx; iintro Hx
  iapply (wp_ldI m ρ c) $$ Hi; iintro Hi
  iapply (wp_load_slot m ρ c 0 0 2 (by decide) (fullShare.right.right) _) $$ Hw0rr; iintro Hw0rr
  iapply (wp_load_slot m ρ c 1 0 2 (by decide) (fullShare.right.right) _) $$ Hw0rr; iintro Hw0rr
  rw [wp_ret]; imodintro
  iapply Hk
  isplitl [Hx]; · iexact Hx
  isplitl [Hi]; · iexact Hi
  iexact Hw0rr

set_option maxHeartbeats 1000000 in
/-- The own experts' product is stored; the counts' send is over. -/
theorem part7 (c : Dev nD) (v2 v7 : BitVec 32) (v168 : FVec F S2048x512 .bf16) (v170 : IVec S2048x1 32) (v195 : FVec F S2048x1024 .f32) (v200 : IVec S2048x1 32) (f0 : Buf (Elt F) ((c : Thread nD τ).loc cc0_stg3_0)) (Kt : PUnit → sProp 𝕄) :
    iprop((env m ρ K ∗ wPts c 2 4 fullShare.right.right (wallC m ρ c) ∗ outP c f0 ∗ owed c 4 ∗ pos c (Q 16) ∗ crd c (Q 16))
      ∗ ((wPts c 2 4 fullShare.right.right (wallC m ρ c) ∗ outP c (k0_pay14 v2 v168 v170 v195 v200 (wRd m ρ c 2 inb_S16x512x1024_S1x512x1024_2_0_0) (wRd m ρ c 3 inb_S16x512x1024_S1x512x1024_3_0_0)) ∗ owed c 4 ∗ fin c (Q 16) ∗ cPts c c.val (cntC m ρ))
        -∗ Kt ⟨⟩))
    ⊢ wp frame (wpE (defs₀ (F := F)) 𝒱₀ (c : Thread nD τ) none) Set.univ
        (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v7 v168 v170 v195 v200) Kt := by
  simp only [k0_part7_eq_skeleton]; unfold k0_part7_skel
  simp only [semSignalWord, semWaitWord, Prog.lift, Prog.bind_op, Prog.bind_ret, Prog.pure_eq_ret, Prog.bind_assoc, wp_deviceId]
  simp only [sem16]
  iintro ⟨⟨#HE, Hw2rr, Ho, HO, Hp16, Hc16⟩, Hk⟩
  iapply (wp_load_slot m ρ c 2 2 4 (by decide) (fullShare.right.right) _) $$ Hw2rr; iintro Hw2rr
  iapply (wp_load_slot m ρ c 3 2 4 (by decide) (fullShare.right.right) _) $$ Hw2rr; iintro Hw2rr
  iapply (wp_ldO c _) $$ Ho; iintro Ho
  iapply (wp_stO c _ _) $$ Ho; iintro Ho
  iapply (wp_wait m ρ K c (Q 16) (by decide) 4 (by decide) (by decide) (credit_cSl _ _)) $$ [Hp16 Hc16 HO]
  · isplitr; · iexact HE
    isplitl [Hp16]; · iexact Hp16
    isplitl [Hc16]; · iexact Hc16
    iexact HO
  iintro ⟨Hz16, Hr0, HO⟩
  ihave Hr0 := (Entails.of_eq (show pay m ρ c (Q 16).val = cPts c c.val (cntC m ρ) from by show cPts c (sh c 0).val (cntC m ρ) = _; rw [sh_zero])) $$ Hr0
  rw [wp_ret]; imodintro
  iapply Hk
  isplitl [Hw2rr]; · iexact Hw2rr
  isplitl [Ho]; · iexact Ho
  isplitl [HO]; · iexact HO
  isplitl [Hz16]; · iexact Hz16
  iexact Hr0

set_option maxHeartbeats 1000000 in
/-- The left neighbour's counts arrive and go on; its first pair arrives and goes on. -/
theorem part8 (c : Dev nD) (v5 v7 : BitVec 32) (Kt : (Σ' (v255 : BitVec 32), BitVec 32) → sProp 𝕄) :
    iprop((env m ρ K ∗ owed c 4 ∗ pos c (Q 19) ∗ crd c (Q 19) ∗ (∃ f, cPts (sh c 1) (sh c 3).val f) ∗ tok c (Q 17) ∗ tok (sh c 1) (Q 20) ∗ pos c (Q 7) ∗ crd c (Q 7) ∗ (∃ f, wPts (sh c 1) 8 10 fullShare f) ∗ tok c (Q 6) ∗ tok (sh c 1) (Q 9))
      ∗ ((owed c 2 ∗ fin c (Q 19) ∗ crd c (Q 17) ∗ fin c (Q 7) ∗ wPts c 12 14 fullShare.right (wallC m ρ c) ∗ crd c (Q 6))
        -∗ Kt ⟨Scalar.muli v5 1#32, 0#32⟩))
    ⊢ wp frame (wpE (defs₀ (F := F)) 𝒱₀ (c : Thread nD τ) none) Set.univ
        (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7) Kt := by
  simp only [k0_part8_eq_skeleton]; unfold k0_part8_skel
  simp only [semSignalWord, semWaitWord, Prog.lift, Prog.bind_op, Prog.bind_ret, Prog.pure_eq_ret, Prog.bind_assoc, wp_deviceId]
  simp only [sem19, sem17, sem20, sem7, sem6, sem9]
  iintro ⟨⟨#HE, HO, Hp19, Hc19, HRC3, Ht17, Ht20, Hp7, Hc7, HR8, Ht6, Ht9⟩, Hk⟩
  iapply (wp_wait m ρ K c (Q 19) (by decide) 4 (by decide) (by decide) (credit_cSl _ _)) $$ [Hp19 Hc19 HO]
  · isplitr; · iexact HE
    isplitl [Hp19]; · iexact Hp19
    isplitl [Hc19]; · iexact Hc19
    iexact HO
  iintro ⟨Hz19, Hr3, HO⟩
  ihave Hr3 := (Entails.of_eq (show pay m ρ c (Q 19).val = cPts c (sh c 3).val (cntC m ρ) from rfl)) $$ Hr3
  iapply (wp_send_cnt m ρ K c (sh c 1) _ (dev8_eq c) (sh c 3).val 3 _ (off2_1 c) _ _ (Q 17) (Q 20) ⟨by decide, by decide, rfl, by rw [show off (Q 20).val = 2 from rfl, sh_sh]⟩ rfl)
      $$ [Hr3 HRC3 HO Ht17 Ht20]
  · isplitr; · iexact HE
    isplitl [Hr3]; · iexact Hr3
    isplitl [HRC3]; · iexact HRC3
    isplitl [HO]; · iexact HO
    isplitl [Ht17]; · iexact Ht17
    iexact Ht20
  iintro ⟨Hc17, HO⟩
  iapply (wp_wait m ρ K c (Q 7) (by decide) 3 (by decide) (by decide) (credit_wSl _ _)) $$ [Hp7 Hc7 HO]
  · isplitr; · iexact HE
    isplitl [Hp7]; · iexact Hp7
    isplitl [Hc7]; · iexact Hc7
    iexact HO
  iintro ⟨Hz7, Hw12f, HO⟩
  ihave Hw12f := (Entails.of_eq (show pay m ρ c (Q 7).val = wPts c 12 14 fullShare (wallC m ρ c) from rfl)) $$ Hw12f
  icases (wPts_half c 12 14 fullShare (wallC m ρ c)).1 $$ Hw12f with ⟨Hw12l, Hw12r⟩
  iapply (wp_send_wall m ρ K c (sh c 1) _ (dev9_eq c) 12 8 2 _ _ (Q 6) (Q 9) ⟨by decide, by decide, by decide, by decide, rfl, rfl, rfl⟩ rfl
      (by decide) (own_12_8 c)) $$ [Hw12l HR8 HO Ht6 Ht9]
  · isplitr; · iexact HE
    isplitl [Hw12l]; · iexact Hw12l
    isplitl [HR8]; · iexact HR8
    isplitl [HO]; · iexact HO
    isplitl [Ht6]; · iexact Ht6
    iexact Ht9
  iintro ⟨Hc6, HO⟩
  rw [wp_ret]; imodintro
  iapply Hk
  isplitl [HO]; · iexact HO
  isplitl [Hz19]; · iexact Hz19
  isplitl [Hc17]; · iexact Hc17
  isplitl [Hz7]; · iexact Hz7
  isplitl [Hw12r]; · iexact Hw12r
  iexact Hc6

end Cert.Moe

end
-- ==== Proof.PartsB.lean ====
/-
The body's second half: the later arrivals and their products.
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 19 → ℕ)

set_option maxHeartbeats 1000000 in
/-- The right neighbour's second pair arrives and goes on. -/
theorem part9 (c : Dev nD) (v5 : BitVec 32) (v168 : FVec F S2048x512 .bf16) (v170 : IVec S2048x1 32) (v255 c0 : BitVec 32) (Kt : (Σ' (v280 : FVec F S2048x1024 .f32), FVec F S2048x512 .bf16) → sProp 𝕄) :
    iprop((env m ρ K ∗ owed c 2 ∗ pos c (Q 13) ∗ crd c (Q 13) ∗ (∃ f, wPts (sh c 3) 10 12 fullShare f) ∗ tok c (Q 12) ∗ tok (sh c 3) (Q 15) ∗ wPts c 12 14 fullShare.right (wallC m ρ c))
      ∗ ((owed c 1 ∗ wPts c 12 14 fullShare.right (wallC m ρ c) ∗ fin c (Q 13) ∗ wPts c 6 8 fullShare.right (wallC m ρ c) ∗ crd c (Q 12))
        -∗ Kt ⟨k0_pay15 v5 v168 v170 (wRd m ρ c 12 inb_S16x512x1024_S1x512x1024_12_0_0), k0_pay16 v5 v168 v170⟩))
    ⊢ wp frame (wpE (defs₀ (F := F)) 𝒱₀ (c : Thread nD τ) none) Set.univ
        (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v168 v170 v255 c0) Kt := by
  simp only [k0_part9_eq_skeleton]; unfold k0_part9_skel
  simp only [semSignalWord, semWaitWord, Prog.lift, Prog.bind_op, Prog.bind_ret, Prog.pure_eq_ret, Prog.bind_assoc, wp_deviceId]
  simp only [sem13, sem12, sem15]
  iintro ⟨⟨#HE, HO, Hp13, Hc13, HL10, Ht12, Ht15, Hw12r⟩, Hk⟩
  iapply (wp_wait m ρ K c (Q 13) (by decide) 2 (by decide) (by decide) (credit_wSl _ _)) $$ [Hp13 Hc13 HO]
  · isplitr; · iexact HE
    isplitl [Hp13]; · iexact Hp13
    isplitl [Hc13]; · iexact Hc13
    iexact HO
  iintro ⟨Hz13, Hw6f, HO⟩
  ihave Hw6f := (Entails.of_eq (show pay m ρ c (Q 13).val = wPts c 6 8 fullShare (wallC m ρ c) from rfl)) $$ Hw6f
  icases (wPts_half c 6 8 fullShare (wallC m ρ c)).1 $$ Hw6f with ⟨Hw6l, Hw6r⟩
  iapply (wp_send_wall m ρ K c (sh c 3) _ (dev10_eq c) 6 10 1 _ _ (Q 12) (Q 15) ⟨by decide, by decide, by decide, by decide, rfl, rfl, rfl⟩ rfl
      (by decide) (own_6_10 c)) $$ [Hw6l HL10 HO Ht12 Ht15]
  · isplitr; · iexact HE
    isplitl [Hw6l]; · iexact Hw6l
    isplitl [HL10]; · iexact HL10
    isplitl [HO]; · iexact HO
    isplitl [Ht12]; · iexact Ht12
    iexact Ht15
  iintro ⟨Hc12, HO⟩
  iapply (wp_load_slot m ρ c 12 12 14 (by decide) (fullShare.right) _) $$ Hw12r; iintro Hw12r
  rw [wp_ret]; imodintro
  iapply Hk
  isplitl [HO]; · iexact HO
  isplitl [Hw12r]; · iexact Hw12r
  isplitl [Hz13]; · iexact Hz13
  isplitl [Hw6r]; · iexact Hw6r
  iexact Hc12

set_option maxHeartbeats 1000000 in
/-- The neighbours' first arrivals are multiplied. -/
theorem part10 (c : Dev nD) (v7 : BitVec 32) (v168 : FVec F S2048x512 .bf16) (v170 : IVec S2048x1 32) (v280 : FVec F S2048x1024 .f32) (v289 : FVec F S2048x512 .bf16) (f0 : Buf (Elt F) ((c : Thread nD τ).loc cc0_stg3_0)) (Kt : PUnit → sProp 𝕄) :
    iprop((wPts c 12 14 fullShare.right (wallC m ρ c) ∗ wPts c 6 8 fullShare.right (wallC m ρ c) ∗ outP c f0)
      ∗ ((wPts c 12 14 fullShare.right (wallC m ρ c) ∗ wPts c 6 8 fullShare.right (wallC m ρ c) ∗ outP c (k0_pay17 v7 v168 v170 v280 v289 (wRd m ρ c 13 inb_S16x512x1024_S1x512x1024_13_0_0) (wRd m ρ c 6 inb_S16x512x1024_S1x512x1024_6_0_0) (wRd m ρ c 7 inb_S16x512x1024_S1x512x1024_7_0_0) f0))
        -∗ Kt ⟨⟩))
    ⊢ wp frame (wpE (defs₀ (F := F)) 𝒱₀ (c : Thread nD τ) none) Set.univ
        (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 v7 v168 v170 v280 v289) Kt := by
  simp only [k0_part10_eq_skeleton]; unfold k0_part10_skel
  simp only [semSignalWord, semWaitWord, Prog.lift, Prog.bind_op, Prog.bind_ret, Prog.pure_eq_ret, Prog.bind_assoc, wp_deviceId]
  iintro ⟨⟨Hw12r, Hw6r, Ho⟩, Hk⟩
  iapply (wp_load_slot m ρ c 13 12 14 (by decide) (fullShare.right) _) $$ Hw12r; iintro Hw12r
  iapply (wp_load_slot m ρ c 6 6 8 (by decide) (fullShare.right) _) $$ Hw6r; iintro Hw6r
  iapply (wp_load_slot m ρ c 7 6 8 (by decide) (fullShare.right) _) $$ Hw6r; iintro Hw6r
  iapply (wp_ldO c _) $$ Ho; iintro Ho
  iapply (wp_ldO c _) $$ Ho; iintro Ho
  iapply (wp_stO c _ _) $$ Ho; iintro Ho
  rw [wp_ret]; imodintro
  iapply Hk
  isplitl [Hw12r]; · iexact Hw12r
  isplitl [Hw6r]; · iexact Hw6r
  iexact Ho

set_option maxHeartbeats 1000000 in
/-- The second counts arrive and go on; the left neighbour's second pair arrives. -/
theorem part11 (c : Dev nD) (v5 v7 : BitVec 32) (Kt : BitVec 32 → sProp 𝕄) :
    iprop((env m ρ K ∗ owed c 1 ∗ pos c (Q 17) ∗ crd c (Q 17) ∗ pos c (Q 20) ∗ crd c (Q 20) ∗ (∃ f, cPts (sh c 1) (sh c 2).val f) ∗ tok c (Q 18) ∗ tok (sh c 1) (Q 21) ∗ pos c (Q 8) ∗ crd c (Q 8))
      ∗ ((owed c 0 ∗ fin c (Q 17) ∗ cPts c (sh c 3).val (cntC m ρ) ∗ fin c (Q 20) ∗ crd c (Q 18) ∗ fin c (Q 8) ∗ wPts c 14 16 fullShare (wallC m ρ c))
        -∗ Kt (Scalar.muli v5 1#32)))
    ⊢ wp frame (wpE (defs₀ (F := F)) 𝒱₀ (c : Thread nD τ) none) Set.univ
        (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v5 v7) Kt := by
  simp only [k0_part11_eq_skeleton]; unfold k0_part11_skel
  simp only [semSignalWord, semWaitWord, Prog.lift, Prog.bind_op, Prog.bind_ret, Prog.pure_eq_ret, Prog.bind_assoc, wp_deviceId]
  simp only [sem17, sem20, sem18, sem21, sem8]
  iintro ⟨⟨#HE, HO, Hp17, Hc17, Hp20, Hc20, HRC2, Ht18, Ht21, Hp8, Hc8⟩, Hk⟩
  iapply (wp_wait m ρ K c (Q 17) (by decide) 1 (by decide) (by decide) (credit_cSl _ _)) $$ [Hp17 Hc17 HO]
  · isplitr; · iexact HE
    isplitl [Hp17]; · iexact Hp17
    isplitl [Hc17]; · iexact Hc17
    iexact HO
  iintro ⟨Hz17, Hr3, HO⟩
  ihave Hr3 := (Entails.of_eq (show pay m ρ c (Q 17).val = cPts c (sh c 3).val (cntC m ρ) from rfl)) $$ Hr3
  iapply (wp_wait m ρ K c (Q 20) (by decide) 1 (by decide) (by decide) (credit_cSl _ _)) $$ [Hp20 Hc20 HO]
  · isplitr; · iexact HE
    isplitl [Hp20]; · iexact Hp20
    isplitl [Hc20]; · iexact Hc20
    iexact HO
  iintro ⟨Hz20, Hr2, HO⟩
  ihave Hr2 := (Entails.of_eq (show pay m ρ c (Q 20).val = cPts c (sh c 2).val (cntC m ρ) from rfl)) $$ Hr2
  iapply (wp_send_cnt m ρ K c (sh c 1) _ (dev11_eq c) (sh c 2).val 0 _ (off2_2 c) _ _ (Q 18) (Q 21) ⟨by decide, by decide, rfl, by rw [show off (Q 21).val = 1 from rfl, sh_sh]⟩ rfl)
      $$ [Hr2 HRC2 HO Ht18 Ht21]
  · isplitr; · iexact HE
    isplitl [Hr2]; · iexact Hr2
    isplitl [HRC2]; · iexact HRC2
    isplitl [HO]; · iexact HO
    isplitl [Ht18]; · iexact Ht18
    iexact Ht21
  iintro ⟨Hc18, HO⟩
  iapply (wp_wait m ρ K c (Q 8) (by decide) 0 (by decide) (by decide) (credit_wSl _ _)) $$ [Hp8 Hc8 HO]
  · isplitr; · iexact HE
    isplitl [Hp8]; · iexact Hp8
    isplitl [Hc8]; · iexact Hc8
    iexact HO
  iintro ⟨Hz8, Hw14f, HO⟩
  ihave Hw14f := (Entails.of_eq (show pay m ρ c (Q 8).val = wPts c 14 16 fullShare (wallC m ρ c) from rfl)) $$ Hw14f
  rw [wp_ret]; imodintro
  iapply Hk
  isplitl [HO]; · iexact HO
  isplitl [Hz17]; · iexact Hz17
  isplitl [Hr3]; · iexact Hr3
  isplitl [Hz20]; · iexact Hz20
  isplitl [Hc18]; · iexact Hc18
  isplitl [Hz8]; · iexact Hz8
  iexact Hw14f

set_option maxHeartbeats 1000000 in
/-- The right neighbour's first pair arrives. -/
theorem part12 (c : Dev nD) (v5 v7 : BitVec 32) (v168 : FVec F S2048x512 .bf16) (v170 : IVec S2048x1 32) (v348 : BitVec 32) (Kt : (Σ' (v378 : FVec F S2048x1024 .f32), FVec F S2048x512 .bf16) → sProp 𝕄) :
    iprop((env m ρ K ∗ owed c 0 ∗ pos c (Q 14) ∗ crd c (Q 14) ∗ wPts c 14 16 fullShare (wallC m ρ c))
      ∗ ((owed c 0 ∗ wPts c 14 16 fullShare (wallC m ρ c) ∗ fin c (Q 14) ∗ wPts c 4 6 fullShare (wallC m ρ c))
        -∗ Kt ⟨k0_pay18 v5 v168 v170 (wRd m ρ c 14 inb_S16x512x1024_S1x512x1024_14_0_0) (wRd m ρ c 15 inb_S16x512x1024_S1x512x1024_15_0_0), k0_pay19 (F := F) v7 v170⟩))
    ⊢ wp frame (wpE (defs₀ (F := F)) 𝒱₀ (c : Thread nD τ) none) Set.univ
        (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 v5 v7 v168 v170 v348) Kt := by
  simp only [k0_part12_eq_skeleton]; unfold k0_part12_skel
  simp only [semSignalWord, semWaitWord, Prog.lift, Prog.bind_op, Prog.bind_ret, Prog.pure_eq_ret, Prog.bind_assoc, wp_deviceId]
  simp only [sem14]
  iintro ⟨⟨#HE, HO, Hp14, Hc14, Hw14f⟩, Hk⟩
  iapply (wp_wait m ρ K c (Q 14) (by decide) 0 (by decide) (by decide) (credit_wSl _ _)) $$ [Hp14 Hc14 HO]
  · isplitr; · iexact HE
    isplitl [Hp14]; · iexact Hp14
    isplitl [Hc14]; · iexact Hc14
    iexact HO
  iintro ⟨Hz14, Hw4f, HO⟩
  ihave Hw4f := (Entails.of_eq (show pay m ρ c (Q 14).val = wPts c 4 6 fullShare (wallC m ρ c) from rfl)) $$ Hw4f
  iapply (wp_load_slot m ρ c 14 14 16 (by decide) (fullShare) _) $$ Hw14f; iintro Hw14f
  iapply (wp_load_slot m ρ c 15 14 16 (by decide) (fullShare) _) $$ Hw14f; iintro Hw14f
  rw [wp_ret]; imodintro
  iapply Hk
  isplitl [HO]; · iexact HO
  isplitl [Hw14f]; · iexact Hw14f
  isplitl [Hz14]; · iexact Hz14
  iexact Hw4f

set_option maxHeartbeats 1000000 in
/-- The neighbours' second arrivals are multiplied. -/
theorem part13 (c : Dev nD) (v7 : BitVec 32) (v168 : FVec F S2048x512 .bf16) (v170 : IVec S2048x1 32) (v378 : FVec F S2048x1024 .f32) (v386 : FVec F S2048x512 .bf16) (f0 : Buf (Elt F) ((c : Thread nD τ).loc cc0_stg3_0)) (Kt : PUnit → sProp 𝕄) :
    iprop((env m ρ K ∗ wPts c 4 6 fullShare (wallC m ρ c) ∗ outP c f0 ∗ owed c 0 ∗ pos c (Q 18) ∗ crd c (Q 18))
      ∗ ((wPts c 4 6 fullShare (wallC m ρ c) ∗ outP c (k0_pay20 v7 v168 v170 v378 v386 (wRd m ρ c 4 inb_S16x512x1024_S1x512x1024_4_0_0) (wRd m ρ c 5 inb_S16x512x1024_S1x512x1024_5_0_0) f0) ∗ owed c 0 ∗ fin c (Q 18) ∗ cPts c (sh c 2).val (cntC m ρ))
        -∗ Kt ⟨⟩))
    ⊢ wp frame (wpE (defs₀ (F := F)) 𝒱₀ (c : Thread nD τ) none) Set.univ
        (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v7 v168 v170 v378 v386) Kt := by
  simp only [k0_part13_eq_skeleton]; unfold k0_part13_skel
  simp only [semSignalWord, semWaitWord, Prog.lift, Prog.bind_op, Prog.bind_ret, Prog.pure_eq_ret, Prog.bind_assoc, wp_deviceId]
  simp only [sem18]
  iintro ⟨⟨#HE, Hw4f, Ho, HO, Hp18, Hc18⟩, Hk⟩
  iapply (wp_load_slot m ρ c 4 4 6 (by decide) (fullShare) _) $$ Hw4f; iintro Hw4f
  iapply (wp_load_slot m ρ c 5 4 6 (by decide) (fullShare) _) $$ Hw4f; iintro Hw4f
  iapply (wp_ldO c _) $$ Ho; iintro Ho
  iapply (wp_ldO c _) $$ Ho; iintro Ho
  iapply (wp_stO c _ _) $$ Ho; iintro Ho
  iapply (wp_wait m ρ K c (Q 18) (by decide) 0 (by decide) (by decide) (credit_cSl _ _)) $$ [Hp18 Hc18 HO]
  · isplitr; · iexact HE
    isplitl [Hp18]; · iexact Hp18
    isplitl [Hc18]; · iexact Hc18
    iexact HO
  iintro ⟨Hz18, Hr2, HO⟩
  ihave Hr2 := (Entails.of_eq (show pay m ρ c (Q 18).val = cPts c (sh c 2).val (cntC m ρ) from rfl)) $$ Hr2
  rw [wp_ret]; imodintro
  iapply Hk
  isplitl [Hw4f]; · iexact Hw4f
  isplitl [Ho]; · iexact Ho
  isplitl [HO]; · iexact HO
  isplitl [Hz18]; · iexact Hz18
  iexact Hr2

set_option maxHeartbeats 1000000 in
/-- All counts are there and read; the opposite device's first pair arrives. -/
theorem part14 (c : Dev nD) (v2 v7 v9 : BitVec 32) (v21 v165 : FVec F S2048x128 .f32) (v168 : FVec F S2048x512 .bf16) (v170 : IVec S2048x1 32) (Kt : (Σ' (v433 : FVec F S2048x1 .f32) (v448 : FVec F S2048x512 .bf16), FVec F S512x1024 .bf16) → sProp 𝕄) :
    iprop((env m ρ K ∗ owed c 0 ∗ pos c (Q 21) ∗ crd c (Q 21) ∗ cPts c c.val (cntC m ρ) ∗ cPts c (sh c 3).val (cntC m ρ) ∗ cPts c (sh c 2).val (cntC m ρ) ∗ pos c (Q 9) ∗ crd c (Q 9))
      ∗ ((owed c 0 ∗ fin c (Q 21) ∗ cAll m ρ c ∗ fin c (Q 9) ∗ wPts c 8 10 fullShare (wallC m ρ c))
        -∗ Kt ⟨k0_pay21 v2 v21 v165 (cRd m ρ), k0_pay22 v9 v168 v170, k0_pay23 (wRd m ρ c 8 inb_S16x512x1024_S1x512x1024_8_0_0)⟩))
    ⊢ wp frame (wpE (defs₀ (F := F)) 𝒱₀ (c : Thread nD τ) none) Set.univ
        (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 c v2 v7 v9 v21 v165 v168 v170) Kt := by
  simp only [k0_part14_eq_skeleton]; unfold k0_part14_skel
  simp only [semSignalWord, semWaitWord, Prog.lift, Prog.bind_op, Prog.bind_ret, Prog.pure_eq_ret, Prog.bind_assoc, wp_deviceId]
  simp only [sem21, sem9]
  iintro ⟨⟨#HE, HO, Hp21, Hc21, Hr0, Hr3, Hr2, Hp9, Hc9⟩, Hk⟩
  iapply (wp_wait m ρ K c (Q 21) (by decide) 0 (by decide) (by decide) (credit_cSl _ _)) $$ [Hp21 Hc21 HO]
  · isplitr; · iexact HE
    isplitl [Hp21]; · iexact Hp21
    isplitl [Hc21]; · iexact Hc21
    iexact HO
  iintro ⟨Hz21, Hr1, HO⟩
  ihave Hr1 := (Entails.of_eq (show pay m ρ c (Q 21).val = cPts c (sh c 1).val (cntC m ρ) from rfl)) $$ Hr1
  ihave Hcn := (cPts_rows c c (cntC m ρ)).2 $$ [Hr0 Hr3 Hr2 Hr1]
  · isplitl [Hr0]; · iexact Hr0
    isplitl [Hr3]; · iexact Hr3
    isplitl [Hr2]; · iexact Hr2
    iexact Hr1
  ihave Hcn := (show (((c : Thread nD τ).loc cc0_scratch1) ↦{fullShare} cntC m ρ : sProp 𝕄) ⊢ cAll m ρ c from .rfl) $$ Hcn
  iapply (wp_ldC m ρ c) $$ Hcn; iintro Hcn
  iapply (wp_wait m ρ K c (Q 9) (by decide) 0 (by decide) (by decide) (credit_wSl _ _)) $$ [Hp9 Hc9 HO]
  · isplitr; · iexact HE
    isplitl [Hp9]; · iexact Hp9
    isplitl [Hc9]; · iexact Hc9
    iexact HO
  iintro ⟨Hz9, Hw8f, HO⟩
  ihave Hw8f := (Entails.of_eq (show pay m ρ c (Q 9).val = wPts c 8 10 fullShare (wallC m ρ c) from rfl)) $$ Hw8f
  iapply (wp_load_slot m ρ c 8 8 10 (by decide) (fullShare) _) $$ Hw8f; iintro Hw8f
  rw [wp_ret]; imodintro
  iapply Hk
  isplitl [HO]; · iexact HO
  isplitl [Hz21]; · iexact Hz21
  isplitl [Hcn]; · iexact Hcn
  isplitl [Hz9]; · iexact Hz9
  iexact Hw8f

set_option maxHeartbeats 1000000 in
/-- The opposite device's first pair is multiplied, its second arrives. -/
theorem part15 (c : Dev nD) (v5 v9 : BitVec 32) (v168 : FVec F S2048x512 .bf16) (v170 : IVec S2048x1 32) (v448 : FVec F S2048x512 .bf16) (v450 : FVec F S512x1024 .bf16) (f0 : Buf (Elt F) ((c : Thread nD τ).loc cc0_stg3_0)) (Kt : (FVec F S2048x512 .bf16) → sProp 𝕄) :
    iprop((env m ρ K ∗ wPts c 8 10 fullShare (wallC m ρ c) ∗ outP c f0 ∗ owed c 0 ∗ pos c (Q 15) ∗ crd c (Q 15))
      ∗ ((wPts c 8 10 fullShare (wallC m ρ c) ∗ outP c (k0_pay24 v9 v168 v170 v448 v450 (wRd m ρ c 9 inb_S16x512x1024_S1x512x1024_9_0_0) f0) ∗ owed c 0 ∗ fin c (Q 15) ∗ wPts c 10 12 fullShare (wallC m ρ c))
        -∗ Kt (k0_pay25 v9 v168 v170)))
    ⊢ wp frame (wpE (defs₀ (F := F)) 𝒱₀ (c : Thread nD τ) none) Set.univ
        (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 v5 v9 v168 v170 v448 v450) Kt := by
  simp only [k0_part15_eq_skeleton]; unfold k0_part15_skel
  simp only [semSignalWord, semWaitWord, Prog.lift, Prog.bind_op, Prog.bind_ret, Prog.pure_eq_ret, Prog.bind_assoc, wp_deviceId]
  simp only [sem15]
  iintro ⟨⟨#HE, Hw8f, Ho, HO, Hp15, Hc15⟩, Hk⟩
  iapply (wp_load_slot m ρ c 9 8 10 (by decide) (fullShare) _) $$ Hw8f; iintro Hw8f
  iapply (wp_ldO c _) $$ Ho; iintro Ho
  iapply (wp_ldO c _) $$ Ho; iintro Ho
  iapply (wp_stO c _ _) $$ Ho; iintro Ho
  iapply (wp_wait m ρ K c (Q 15) (by decide) 0 (by decide) (by decide) (credit_wSl _ _)) $$ [Hp15 Hc15 HO]
  · isplitr; · iexact HE
    isplitl [Hp15]; · iexact Hp15
    isplitl [Hc15]; · iexact Hc15
    iexact HO
  iintro ⟨Hz15, Hw10f, HO⟩
  ihave Hw10f := (Entails.of_eq (show pay m ρ c (Q 15).val = wPts c 10 12 fullShare (wallC m ρ c) from rfl)) $$ Hw10f
  rw [wp_ret]; imodintro
  iapply Hk
  isplitl [Hw8f]; · iexact Hw8f
  isplitl [Ho]; · iexact Ho
  isplitl [HO]; · iexact HO
  isplitl [Hz15]; · iexact Hz15
  iexact Hw10f

set_option maxHeartbeats 1000000 in
/-- The last product, and the result accepted or not. -/
theorem part16 (c : Dev nD) (v9 : BitVec 32) (v168 : FVec F S2048x512 .bf16) (v170 : IVec S2048x1 32) (v433 : FVec F S2048x1 .f32) (v483 : FVec F S2048x512 .bf16) (f0 : Buf (Elt F) ((c : Thread nD τ).loc cc0_stg3_0)) (Kt : PUnit → sProp 𝕄) :
    iprop((env m ρ K ∗ wPts c 10 12 fullShare (wallC m ρ c) ∗ outP c f0 ∗ owed c 0 ∗ pos c (Q 4) ∗ crd c (Q 4))
      ∗ ((wPts c 10 12 fullShare (wallC m ρ c) ∗ outP c (k0_pay26 v9 v168 v170 v433 v483 (wRd m ρ c 10 inb_S16x512x1024_S1x512x1024_10_0_0) (wRd m ρ c 11 inb_S16x512x1024_S1x512x1024_11_0_0) f0) ∗ owed c 0 ∗ fin c (Q 4) ∗ wPts c 0 2 fullShare.left (wallC m ρ c))
        -∗ Kt ⟨⟩))
    ⊢ wp frame (wpE (defs₀ (F := F)) 𝒱₀ (c : Thread nD τ) none) Set.univ
        (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7 v9 v168 v170 v433 v483) Kt := by
  simp only [k0_part16_eq_skeleton]; unfold k0_part16_skel
  simp only [semSignalWord, semWaitWord, Prog.lift, Prog.bind_op, Prog.bind_ret, Prog.pure_eq_ret, Prog.bind_assoc, wp_deviceId]
  simp only [sem4]
  iintro ⟨⟨#HE, Hw10f, Ho, HO, Hp4, Hc4⟩, Hk⟩
  iapply (wp_load_slot m ρ c 10 10 12 (by decide) (fullShare) _) $$ Hw10f; iintro Hw10f
  iapply (wp_load_slot m ρ c 11 10 12 (by decide) (fullShare) _) $$ Hw10f; iintro Hw10f
  iapply (wp_ldO c _) $$ Ho; iintro Ho
  iapply (wp_ldO c _) $$ Ho; iintro Ho
  iapply (wp_stO c _ _) $$ Ho; iintro Ho
  iapply (wp_wait m ρ K c (Q 4) (by decide) 0 (by decide) (by decide) (credit_wSl _ _)) $$ [Hp4 Hc4 HO]
  · isplitr; · iexact HE
    isplitl [Hp4]; · iexact Hp4
    isplitl [Hc4]; · iexact Hc4
    iexact HO
  iintro ⟨Hz4, Hw0l, HO⟩
  ihave Hw0l := (Entails.of_eq (show pay m ρ c (Q 4).val = wPts c 0 2 fullShare.left (wallC m ρ c) from rfl)) $$ Hw0l
  rw [wp_ret]; imodintro
  iapply Hk
  isplitl [Hw10f]; · iexact Hw10f
  isplitl [Ho]; · iexact Ho
  isplitl [HO]; · iexact HO
  isplitl [Hz4]; · iexact Hz4
  iexact Hw0l

end Cert.Moe

end
-- ==== Proof.Body.lean ====
/-
The whole body: the parts one after another, then the last waits.
-/
module

public import proofs.«01_k».proof.Proof.PartOne
public import proofs.«01_k».proof.Proof.PartsA
public import proofs.«01_k».proof.Proof.PartsB

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result, as the parts compose it -/

/-- The ranks of the device's tokens within their experts, by the doubling scan. -/
def rankC (c : Dev nD) : FVec F S2048x128 .f32 :=
  k0_pay9 (k0_pay1 (istg m ρ c)) (iota .tc S2048x128 32 [0] iota_S2048x128_d0_w32)
    (k0_pay7 (iota .tc S2048x128 32 [0] iota_S2048x128_d0_w32) (k0_pay4 (k0_pay1 (istg m ρ c))) (k0_pay5 (k0_pay1 (istg m ρ c))) k0_pay6 (Scalar.ofBits .f32 0x00000000#32))
    (k0_pay8 (iota .tc S2048x128 32 [0] iota_S2048x128_d0_w32) (k0_pay4 (k0_pay1 (istg m ρ c))) (k0_pay5 (k0_pay1 (istg m ρ c))) k0_pay6 (Scalar.ofBits .f32 0x00000000#32))
    1024#32
/-- The tokens, and the experts they go to. -/
def xC (c : Dev nD) : FVec F S2048x512 .bf16 := k0_pay10 (xstg m ρ c)
def iC (c : Dev nD) : IVec S2048x1 32 := k0_pay11 (F := F) (istg m ρ c)
/-- The result after the device's own experts. -/
def out1 (c : Dev nD) : FVec F S2048x1024 .f32 :=
  k0_pay14 (v2v c) (xC m ρ c) (iC m ρ c) (k0_pay12 (v2v c) (xstg m ρ c) (istg m ρ c) (wRd m ρ c 0 inb_S16x512x1024_S1x512x1024_0_0_0) (wRd m ρ c 1 inb_S16x512x1024_S1x512x1024_1_0_0)) (k0_pay13 (F := F) (v2v c) (istg m ρ c)) (wRd m ρ c 2 inb_S16x512x1024_S1x512x1024_2_0_0) (wRd m ρ c 3 inb_S16x512x1024_S1x512x1024_3_0_0)
/-- … after the neighbours' first pairs, … -/
def out2 (c : Dev nD) : FVec F S2048x1024 .f32 :=
  k0_pay17 (v7v c) (xC m ρ c) (iC m ρ c) (k0_pay15 (v5v c) (xC m ρ c) (iC m ρ c) (wRd m ρ c 12 inb_S16x512x1024_S1x512x1024_12_0_0)) (k0_pay16 (v5v c) (xC m ρ c) (iC m ρ c)) (wRd m ρ c 13 inb_S16x512x1024_S1x512x1024_13_0_0) (wRd m ρ c 6 inb_S16x512x1024_S1x512x1024_6_0_0) (wRd m ρ c 7 inb_S16x512x1024_S1x512x1024_7_0_0) (out1 m ρ c)
/-- … their second pairs, … -/
def out3 (c : Dev nD) : FVec F S2048x1024 .f32 :=
  k0_pay20 (v7v c) (xC m ρ c) (iC m ρ c) (k0_pay18 (v5v c) (xC m ρ c) (iC m ρ c) (wRd m ρ c 14 inb_S16x512x1024_S1x512x1024_14_0_0) (wRd m ρ c 15 inb_S16x512x1024_S1x512x1024_15_0_0)) (k0_pay19 (F := F) (v7v c) (iC m ρ c)) (wRd m ρ c 4 inb_S16x512x1024_S1x512x1024_4_0_0) (wRd m ρ c 5 inb_S16x512x1024_S1x512x1024_5_0_0) (out2 m ρ c)
/-- … the opposite device's first pair, … -/
def out4 (c : Dev nD) : FVec F S2048x1024 .f32 :=
  k0_pay24 (v9v c) (xC m ρ c) (iC m ρ c) (k0_pay22 (v9v c) (xC m ρ c) (iC m ρ c)) (k0_pay23 (wRd m ρ c 8 inb_S16x512x1024_S1x512x1024_8_0_0)) (wRd m ρ c 9 inb_S16x512x1024_S1x512x1024_9_0_0) (out3 m ρ c)
/-- … and at the end: the opposite device's second pair, then each token accepted or not. -/
def outC (c : Dev nD) : FVec F S2048x1024 .f32 :=
  k0_pay26 (v9v c) (xC m ρ c) (iC m ρ c) (k0_pay21 (v2v c) (k0_pay1 (istg m ρ c)) (rankC m ρ c) (cRd m ρ)) (k0_pay25 (v9v c) (xC m ρ c) (iC m ρ c)) (wRd m ρ c 10 inb_S16x512x1024_S1x512x1024_10_0_0) (wRd m ρ c 11 inb_S16x512x1024_S1x512x1024_11_0_0) (out4 m ρ c)

variable (K : Dev nD × Fin 19 → ℕ)

/-! ## What a device starts and ends with -/

/-- The places of a device's own eighteen transfer cells. -/
def posAll (c : Dev nD) : sProp 𝕄 := iprop(pos c (Q 4) ∗ pos c (Q 5) ∗ pos c (Q 6) ∗ pos c (Q 7) ∗ pos c (Q 8) ∗ pos c (Q 9) ∗ pos c (Q 10) ∗ pos c (Q 11) ∗ pos c (Q 12) ∗ pos c (Q 13) ∗ pos c (Q 14) ∗ pos c (Q 15) ∗ pos c (Q 16) ∗ pos c (Q 17) ∗ pos c (Q 18) ∗ pos c (Q 19) ∗ pos c (Q 20) ∗ pos c (Q 21))
/-- The same cells' counters at the end. -/
def finAll (c : Dev nD) : sProp 𝕄 := iprop(fin c (Q 4) ∗ fin c (Q 5) ∗ fin c (Q 6) ∗ fin c (Q 7) ∗ fin c (Q 8) ∗ fin c (Q 9) ∗ fin c (Q 10) ∗ fin c (Q 11) ∗ fin c (Q 12) ∗ fin c (Q 13) ∗ fin c (Q 14) ∗ fin c (Q 15) ∗ fin c (Q 16) ∗ fin c (Q 17) ∗ fin c (Q 18) ∗ fin c (Q 19) ∗ fin c (Q 20) ∗ fin c (Q 21))
/-- The right to raise the cells of its own sends, and the cells its neighbours receive on. -/
def toksAll (c : Dev nD) : sProp 𝕄 :=
  iprop((dutyTok ER (barCell (sh c 3)) 0 true ∗ dutyTok ER (barCell (sh c 1)) 0 false)
    ∗ (tok c (Q 4) ∗ tok c (Q 5) ∗ tok c (Q 6) ∗ tok c (Q 10) ∗ tok c (Q 11) ∗ tok c (Q 12) ∗ tok c (Q 16) ∗ tok c (Q 17) ∗ tok c (Q 18))
    ∗ (tok (sh c 1) (Q 7) ∗ tok (sh c 1) (Q 8) ∗ tok (sh c 1) (Q 9) ∗ tok (sh c 1) (Q 19) ∗ tok (sh c 1) (Q 20) ∗ tok (sh c 1) (Q 21))
    ∗ (tok (sh c 3) (Q 13) ∗ tok (sh c 3) (Q 14) ∗ tok (sh c 3) (Q 15)))
/-- The credit its neighbours owe it. -/
def crdAll (c : Dev nD) : sProp 𝕄 := iprop(cred (tallyAt (barCell c) () 2) ∗ crd c (Q 7) ∗ crd c (Q 8) ∗ crd c (Q 9) ∗ crd c (Q 13) ∗ crd c (Q 14) ∗ crd c (Q 15) ∗ crd c (Q 19) ∗ crd c (Q 20) ∗ crd c (Q 21))
/-- What a device enters the body with. -/
def bodyIn (c : Dev nD) : sProp 𝕄 :=
  iprop(env m ρ K ∗ owed c 11 ∗ atPos ER (barCell c) 0 ∅ 0 ∗ posAll c ∗ toksAll c ∗ crdAll c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ stgX m ρ c ∗ stgI m ρ c ∗ stgE m ρ c ∗ (∃ f, outP c f))
/-- What it leaves with. -/
def bodyOut (c : Dev nD) : sProp 𝕄 :=
  iprop(owed c 0 ∗ semVal (barCell c) 0 ∗ finAll c
    ∗ (((c : Thread nD τ).loc cc0_scratch0) ↦{fullShare} wallC m ρ c) ∗ cAll m ρ c
    ∗ stgX m ρ c ∗ stgI m ρ c ∗ stgE m ρ c ∗ outP c (outC m ρ c))

set_option maxHeartbeats 4000000 in
/-- The body, from what a device enters with to what it leaves with. -/
theorem sound_body (c : Dev nD) (Kt : PUnit → sProp 𝕄) :
    iprop(bodyIn m ρ K c ∗ (bodyOut m ρ c -∗ Kt ⟨⟩))
      ⊢ wp frame (wpE (defs₀ (F := F)) 𝒱₀ (c : Thread nD τ) none) Set.univ
          (cc0__body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) Kt := by
  rw [cc0__body_eq_skeleton]; unfold cc0__body_skel
  rw [wp_bind, k0_part17_eq_skeleton]; unfold k0_part17_skel
  unfold bodyIn posAll toksAll crdAll
  iintro ⟨⟨#HE, HO, Hat, ⟨Hp4, Hp5, Hp6, Hp7, Hp8, Hp9, Hp10, Hp11, Hp12, Hp13, Hp14, Hp15, Hp16, Hp17, Hp18, Hp19, Hp20, Hp21⟩, ⟨⟨HtL, HtR⟩, ⟨Ht4, Ht5, Ht6, Ht10, Ht11, Ht12, Ht16, Ht17, Ht18⟩, ⟨Ht7, Ht8, Ht9, Ht19, Ht20, Ht21⟩, ⟨Ht13, Ht14, Ht15⟩⟩,
    ⟨HcB, Hc7, Hc8, Hc9, Hc13, Hc14, Hc15, Hc19, Hc20, Hc21⟩, ⟨%fw, Hw⟩, ⟨%fc, Hcn⟩, Hx, Hi, He, ⟨%fo, Ho⟩⟩, Hk⟩
  ihave Hw := (Entails.of_eq (wPts_whole c fullShare fw)) $$ Hw
  icases (wPts_split c 0 4 16 (by decide) (by decide) fullShare fw).1 $$ Hw with ⟨Hown, Hw⟩
  icases (wPts_split c 4 6 16 (by decide) (by decide) fullShare fw).1 $$ Hw with ⟨Hg4, Hw⟩
  icases (wPts_split c 6 8 16 (by decide) (by decide) fullShare fw).1 $$ Hw with ⟨Hg6, Hw⟩
  icases (wPts_split c 8 10 16 (by decide) (by decide) fullShare fw).1 $$ Hw with ⟨Hg8, Hw⟩
  icases (wPts_split c 10 12 16 (by decide) (by decide) fullShare fw).1 $$ Hw with ⟨Hg10, Hw⟩
  icases (wPts_split c 12 14 16 (by decide) (by decide) fullShare fw).1 $$ Hw with ⟨Hg12, Hg14⟩
  icases (cPts_rows c c fc).1 $$ Hcn with ⟨Hr0, Hq3, Hq2, Hq1⟩
  rw [wp_bind]
  iapply (part1 m ρ K c _)
  isplitl [HO HtL HtR Hat HcB Hg4 Hg6 Hg8 Hg10 Hg12 Hg14 Hq3 Hq2 Hq1 Hi Hr0]
  · isplitr; · iexact HE
    isplitl [HO]; · iexact HO
    isplitl [HtL]; · iexact HtL
    isplitl [HtR]; · iexact HtR
    isplitl [Hat]; · iexact Hat
    isplitl [HcB]; · iexact HcB
    isplitl [Hg12 Hg14 Hg8 Hq3 Hq2 Hq1]
    · unfold giveL
      isplitl [Hg12]; · iexists fw; iexact Hg12
      isplitl [Hg14]; · iexists fw; iexact Hg14
      isplitl [Hg8]; · iexists fw; iexact Hg8
      isplitl [Hq3]; · iexists fc; iexact Hq3
      isplitl [Hq2]; · iexists fc; iexact Hq2
      iexists fc; iexact Hq1
    isplitl [Hg6 Hg4 Hg10]
    · unfold giveR
      isplitl [Hg6]; · iexists fw; iexact Hg6
      isplitl [Hg4]; · iexists fw; iexact Hg4
      iexists fw; iexact Hg10
    isplitl [Hi]; · iexact Hi
    iexists fc; iexact Hr0
  unfold barL barR
  iintro ⟨HO, HzB, ⟨HN6, HN4, HN10⟩, ⟨HN12, HN14, HN8, HRC0, HRC3, HRC2⟩, Hi, Hr0⟩
  ihave Hown := (show wPts c 0 4 fullShare fw ⊢ (iprop(∃ f, wPts c 0 4 fullShare f) : sProp 𝕄) from Laws.exists_intro (Φ := fun f => wPts c 0 4 fullShare f) fw) $$ Hown
  rw [wp_bind]
  iapply (part2 m ρ K c _ _ _ _)
  isplitl [Hr0 HRC0 HO Ht16 Ht19]
  · isplitr; · iexact HE
    isplitl [Hr0]; · iexact Hr0
    isplitl [HRC0]; · iexact HRC0
    isplitl [HO]; · iexact HO
    isplitl [Ht16]; · iexact Ht16
    iexact Ht19
  iintro ⟨HO, Hc16⟩
  rw [wp_bind]
  iapply (part3 m ρ K c _ _ _)
  isplitl [He Hown HN12 HN6 HO Ht4 Ht7 Ht10 Ht13]
  · isplitr; · iexact HE
    isplitl [He]; · iexact He
    isplitl [Hown]; · iexact Hown
    isplitl [HN12]; · iexact HN12
    isplitl [HN6]; · iexact HN6
    isplitl [HO]; · iexact HO
    isplitl [Ht4]; · iexact Ht4
    isplitl [Ht7]; · iexact Ht7
    isplitl [Ht10]; · iexact Ht10
    iexact Ht13
  iintro ⟨He, HO, Hw0r, Hc4, Hw2r, Hc10⟩
  rw [wp_bind]
  iapply (part4 m ρ K c _ _ _)
  isplitl [Hw0r Hw2r HN14 HN4 HO Ht5 Ht8 Ht11 Ht14]
  · isplitr; · iexact HE
    isplitl [Hw0r]; · iexact Hw0r
    isplitl [Hw2r]; · iexact Hw2r
    isplitl [HN14]; · iexact HN14
    isplitl [HN4]; · iexact HN4
    isplitl [HO]; · iexact HO
    isplitl [Ht5]; · iexact Ht5
    isplitl [Ht8]; · iexact Ht8
    isplitl [Ht11]; · iexact Ht11
    iexact Ht14
  iintro ⟨HO, Hw2rr, Hc5, Hw0rr, Hc11⟩
  rw [wp_bind]
  iapply (part5 c _ _ _ _ _ _)
  rw [wp_bind]
  iapply (part6 m ρ c _ _ _ _ _ _ _)
  isplitl [Hx Hi Hw0rr]
  · isplitl [Hx]; · iexact Hx
    isplitl [Hi]; · iexact Hi
    iexact Hw0rr
  iintro ⟨Hx, Hi, Hw0rr⟩
  rw [wp_bind]
  iapply (part7 m ρ K c _ _ _ _ _ _ _ _)
  isplitl [Hw2rr Ho HO Hp16 Hc16]
  · isplitr; · iexact HE
    isplitl [Hw2rr]; · iexact Hw2rr
    isplitl [Ho]; · iexact Ho
    isplitl [HO]; · iexact HO
    isplitl [Hp16]; · iexact Hp16
    iexact Hc16
  iintro ⟨Hw2rr, Ho, HO, Hz16, Hr0⟩
  rw [wp_bind]
  iapply (part8 m ρ K c _ _ _)
  isplitl [HO Hp19 Hc19 HRC3 Ht17 Ht20 Hp7 Hc7 HN8 Ht6 Ht9]
  · isplitr; · iexact HE
    isplitl [HO]; · iexact HO
    isplitl [Hp19]; · iexact Hp19
    isplitl [Hc19]; · iexact Hc19
    isplitl [HRC3]; · iexact HRC3
    isplitl [Ht17]; · iexact Ht17
    isplitl [Ht20]; · iexact Ht20
    isplitl [Hp7]; · iexact Hp7
    isplitl [Hc7]; · iexact Hc7
    isplitl [HN8]; · iexact HN8
    isplitl [Ht6]; · iexact Ht6
    iexact Ht9
  iintro ⟨HO, Hz19, Hc17, Hz7, Hw12r, Hc6⟩
  rw [wp_bind]
  iapply (part9 m ρ K c _ _ _ _ _ _)
  isplitl [HO Hp13 Hc13 HN10 Ht12 Ht15 Hw12r]
  · isplitr; · iexact HE
    isplitl [HO]; · iexact HO
    isplitl [Hp13]; · iexact Hp13
    isplitl [Hc13]; · iexact Hc13
    isplitl [HN10]; · iexact HN10
    isplitl [Ht12]; · iexact Ht12
    isplitl [Ht15]; · iexact Ht15
    iexact Hw12r
  iintro ⟨HO, Hw12r, Hz13, Hw6r, Hc12⟩
  rw [wp_bind]
  iapply (part10 m ρ c _ _ _ _ _ _ _)
  isplitl [Hw12r Hw6r Ho]
  · isplitl [Hw12r]; · iexact Hw12r
    isplitl [Hw6r]; · iexact Hw6r
    iexact Ho
  iintro ⟨Hw12r, Hw6r, Ho⟩
  rw [wp_bind]
  iapply (part11 m ρ K c _ _ _)
  isplitl [HO Hp17 Hc17 Hp20 Hc20 HRC2 Ht18 Ht21 Hp8 Hc8]
  · isplitr; · iexact HE
    isplitl [HO]; · iexact HO
    isplitl [Hp17]; · iexact Hp17
    isplitl [Hc17]; · iexact Hc17
    isplitl [Hp20]; · iexact Hp20
    isplitl [Hc20]; · iexact Hc20
    isplitl [HRC2]; · iexact HRC2
    isplitl [Ht18]; · iexact Ht18
    isplitl [Ht21]; · iexact Ht21
    isplitl [Hp8]; · iexact Hp8
    iexact Hc8
  iintro ⟨HO, Hz17, Hr3, Hz20, Hc18, Hz8, Hw14f⟩
  rw [wp_bind]
  iapply (part12 m ρ K c _ _ _ _ _ _)
  isplitl [HO Hp14 Hc14 Hw14f]
  · isplitr; · iexact HE
    isplitl [HO]; · iexact HO
    isplitl [Hp14]; · iexact Hp14
    isplitl [Hc14]; · iexact Hc14
    iexact Hw14f
  iintro ⟨HO, Hw14f, Hz14, Hw4f⟩
  rw [wp_bind]
  iapply (part13 m ρ K c _ _ _ _ _ _ _)
  isplitl [Hw4f Ho HO Hp18 Hc18]
  · isplitr; · iexact HE
    isplitl [Hw4f]; · iexact Hw4f
    isplitl [Ho]; · iexact Ho
    isplitl [HO]; · iexact HO
    isplitl [Hp18]; · iexact Hp18
    iexact Hc18
  iintro ⟨Hw4f, Ho, HO, Hz18, Hr2⟩
  rw [wp_bind]
  iapply (part14 m ρ K c _ _ _ _ _ _ _ _)
  isplitl [HO Hp21 Hc21 Hr0 Hr3 Hr2 Hp9 Hc9]
  · isplitr; · iexact HE
    isplitl [HO]; · iexact HO
    isplitl [Hp21]; · iexact Hp21
    isplitl [Hc21]; · iexact Hc21
    isplitl [Hr0]; · iexact Hr0
    isplitl [Hr3]; · iexact Hr3
    isplitl [Hr2]; · iexact Hr2
    isplitl [Hp9]; · iexact Hp9
    iexact Hc9
  iintro ⟨HO, Hz21, Hcn, Hz9, Hw8f⟩
  rw [wp_bind]
  iapply (part15 m ρ K c _ _ _ _ _ _ _ _)
  isplitl [Hw8f Ho HO Hp15 Hc15]
  · isplitr; · iexact HE
    isplitl [Hw8f]; · iexact Hw8f
    isplitl [Ho]; · iexact Ho
    isplitl [HO]; · iexact HO
    isplitl [Hp15]; · iexact Hp15
    iexact Hc15
  iintro ⟨Hw8f, Ho, HO, Hz15, Hw10f⟩
  rw [wp_bind]
  iapply (part16 m ρ K c _ _ _ _ _ _ _)
  isplitl [Hw10f Ho HO Hp4 Hc4]
  · isplitr; · iexact HE
    isplitl [Hw10f]; · iexact Hw10f
    isplitl [Ho]; · iexact Ho
    isplitl [HO]; · iexact HO
    isplitl [Hp4]; · iexact Hp4
    iexact Hc4
  iintro ⟨Hw10f, Ho, HO, Hz4, Hw0l⟩
  simp only [semSignalWord, semWaitWord, Prog.lift, Prog.bind_op, Prog.bind_ret, Prog.pure_eq_ret, Prog.bind_assoc, wp_deviceId]
  simp only [sem5, sem10, sem11]
  iapply (wp_wait m ρ K c (Q 5) (by decide) 0 (by decide) (by decide) (credit_wSl _ _)) $$ [Hp5 Hc5 HO]
  · isplitr; · iexact HE
    isplitl [Hp5]; · iexact Hp5
    isplitl [Hc5]; · iexact Hc5
    iexact HO
  iintro ⟨Hz5, Hw2rl, HO⟩
  ihave Hw2rl := (Entails.of_eq (show pay m ρ c (Q 5).val = wPts c 2 4 fullShare.right.left (wallC m ρ c) from rfl)) $$ Hw2rl
  iapply (wp_wait m ρ K c (Q 10) (by decide) 0 (by decide) (by decide) (credit_wSl _ _)) $$ [Hp10 Hc10 HO]
  · isplitr; · iexact HE
    isplitl [Hp10]; · iexact Hp10
    isplitl [Hc10]; · iexact Hc10
    iexact HO
  iintro ⟨Hz10, Hw2l, HO⟩
  ihave Hw2l := (Entails.of_eq (show pay m ρ c (Q 10).val = wPts c 2 4 fullShare.left (wallC m ρ c) from rfl)) $$ Hw2l
  iapply (wp_wait m ρ K c (Q 11) (by decide) 0 (by decide) (by decide) (credit_wSl _ _)) $$ [Hp11 Hc11 HO]
  · isplitr; · iexact HE
    isplitl [Hp11]; · iexact Hp11
    isplitl [Hc11]; · iexact Hc11
    iexact HO
  iintro ⟨Hz11, Hw0rl, HO⟩
  ihave Hw0rl := (Entails.of_eq (show pay m ρ c (Q 11).val = wPts c 0 2 fullShare.right.left (wallC m ρ c) from rfl)) $$ Hw0rl
  rw [wp_ret]; imodintro
  simp only [sem6, sem12]
  iapply (wp_wait m ρ K c (Q 6) (by decide) 0 (by decide) (by decide) (credit_wSl _ _)) $$ [Hp6 Hc6 HO]
  · isplitr; · iexact HE
    isplitl [Hp6]; · iexact Hp6
    isplitl [Hc6]; · iexact Hc6
    iexact HO
  iintro ⟨Hz6, Hw12l, HO⟩
  ihave Hw12l := (Entails.of_eq (show pay m ρ c (Q 6).val = wPts c 12 14 fullShare.left (wallC m ρ c) from rfl)) $$ Hw12l
  iapply (wp_wait m ρ K c (Q 12) (by decide) 0 (by decide) (by decide) (credit_wSl _ _)) $$ [Hp12 Hc12 HO]
  · isplitr; · iexact HE
    isplitl [Hp12]; · iexact Hp12
    isplitl [Hc12]; · iexact Hc12
    iexact HO
  iintro ⟨Hz12, Hw6l, HO⟩
  ihave Hw6l := (Entails.of_eq (show pay m ρ c (Q 12).val = wPts c 6 8 fullShare.left (wallC m ρ c) from rfl)) $$ Hw6l
  rw [wp_ret]; imodintro
  ihave Hw0r := (wPts_half c 0 2 fullShare.right (wallC m ρ c)).2 $$ [Hw0rl Hw0rr]
  · isplitl [Hw0rl] <;> iassumption
  ihave Hw0f := (wPts_half c 0 2 fullShare (wallC m ρ c)).2 $$ [Hw0l Hw0r]
  · isplitl [Hw0l] <;> iassumption
  ihave Hw2r := (wPts_half c 2 4 fullShare.right (wallC m ρ c)).2 $$ [Hw2rl Hw2rr]
  · isplitl [Hw2rl] <;> iassumption
  ihave Hw2f := (wPts_half c 2 4 fullShare (wallC m ρ c)).2 $$ [Hw2l Hw2r]
  · isplitl [Hw2l] <;> iassumption
  ihave Hw6f := (wPts_half c 6 8 fullShare (wallC m ρ c)).2 $$ [Hw6l Hw6r]
  · isplitl [Hw6l] <;> iassumption
  ihave Hw12f := (wPts_half c 12 14 fullShare (wallC m ρ c)).2 $$ [Hw12l Hw12r]
  · isplitl [Hw12l] <;> iassumption
  ihave Hw := (wPts_split c 12 14 16 (by decide) (by decide) fullShare (wallC m ρ c)).2 $$ [Hw12f Hw14f]
  · isplitl [Hw12f] <;> iassumption
  ihave Hw := (wPts_split c 10 12 16 (by decide) (by decide) fullShare (wallC m ρ c)).2 $$ [Hw10f Hw]
  · isplitl [Hw10f] <;> iassumption
  ihave Hw := (wPts_split c 8 10 16 (by decide) (by decide) fullShare (wallC m ρ c)).2 $$ [Hw8f Hw]
  · isplitl [Hw8f] <;> iassumption
  ihave Hw := (wPts_split c 6 8 16 (by decide) (by decide) fullShare (wallC m ρ c)).2 $$ [Hw6f Hw]
  · isplitl [Hw6f] <;> iassumption
  ihave Hw := (wPts_split c 4 6 16 (by decide) (by decide) fullShare (wallC m ρ c)).2 $$ [Hw4f Hw]
  · isplitl [Hw4f] <;> iassumption
  ihave Hw := (wPts_split c 2 4 16 (by decide) (by decide) fullShare (wallC m ρ c)).2 $$ [Hw2f Hw]
  · isplitl [Hw2f] <;> iassumption
  ihave Hw := (wPts_split c 0 2 16 (by decide) (by decide) fullShare (wallC m ρ c)).2 $$ [Hw0f Hw]
  · isplitl [Hw0f] <;> iassumption
  ihave Hw := (Entails.of_eq (wPts_whole c fullShare (wallC m ρ c)).symm) $$ Hw
  iapply Hk
  unfold bodyOut finAll
  isplitl [HO]; · iexact HO
  isplitl [HzB]; · iexact HzB
  isplitl [Hz4 Hz5 Hz6 Hz7 Hz8 Hz9 Hz10 Hz11 Hz12 Hz13 Hz14 Hz15 Hz16 Hz17 Hz18 Hz19 Hz20 Hz21]
  · isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    isplitl [Hz17]; · iexact Hz17
    isplitl [Hz18]; · iexact Hz18
    isplitl [Hz19]; · iexact Hz19
    isplitl [Hz20]; · iexact Hz20
    iexact Hz21
  isplitl [Hw]; · iexact Hw
  isplitl [Hcn]; · iexact Hcn
  isplitl [Hx]; · iexact Hx
  isplitl [Hi]; · iexact Hi
  isplitl [He]; · iexact He
  unfold outC out4 out3 out2 out1 rankC xC iC
  iexact Ho

end Cert.Moe

end
-- ==== Proof.Expert.lean ====
/-
One expert's share of the result, and the result as the sixteen of them.
-/
module

public import proofs.«01_k».proof.Proof.Body
public import Idealize.ShloMosaic.Lib.Pointwise.Tactic
public import Idealize.ShloMosaic.Lib.WordCmp
public import Idealize.ShloMosaic.Lib.Pointwise.Contract
public import Idealize.ShloMosaic.Lib.Pointwise.Reduce
public import Idealize.ShloMosaic.Lib.Pointwise.Sums
public import Idealize.ShloMosaic.Lib.Pointwise.Reshape

@[expose] public section

set_option maxRecDepth 16384

noncomputable section

namespace Cert.Moe

open Cert.KernelIdeal Cert.KernelIdeal.Gen
open Idealize.ShloMosaic Idealize.ShloMosaic.TcCoe
open Idealize.SL.Sem

variable {F : FTy → Type} [FloatOps F]

/-- A device's tokens with every row set to zero that is not for expert `n`. -/
def masked (n : BitVec 32) (x : FVec F S2048x512 .bf16) (e : IVec S2048x1 32) : FVec F S2048x512 .bf16 :=
  mulf x (broadcastTo S2048x512 (truncf .bf16 (sitofp .f32 (extui 32 (cmpi .eq e (broadcast S2048x1 n)) natLt_1_32)) bitsLt_bf16_f32) broadcasts_S2048x1_S2048x512)

/-- One expert's share: the tokens meant for it times its weights. -/
def share (n : BitVec 32) (x : FVec F S2048x512 .bf16) (e : IVec S2048x1 32) (W : Vec F S1x512x1024 .bf16) : FVec F S2048x1024 .f32 :=
  matmul dot_S2048x512_S512x1024_S2048x1024_1_0_0_1_n_n none (masked n x e) (shapeCast S512x1024 W shapeCasts_S1x512x1024_S512x1024) (constant S2048x1024 .f32 0x00000000#32)

/-- Expert `k` of the device in position `v`. -/
def exw (v k : BitVec 32) : BitVec 32 := Scalar.addi (Scalar.muli v 4#32) k

/-- A comparison's bit as a number: one if the words are equal, zero if not. -/
theorem bit_eq (a b : BitVec 32) : (FloatOps.sitofp (F := Ideal) .f32 ((IntOp.cmpi .eq a b).setWidth 32) : EReal) = if a = b then 1 else 0 := by
  rw [WordCmp.cmpi_eq_eq]
  show ((((((BitVec.ofBool (decide (a = b))).setWidth 32 : BitVec 32).toInt : ℤ) : ℝ)) : EReal) = _
  by_cases h : a = b <;> simp [h]

/-- A share read at a place: the row's product where the row is for the expert, zero elsewhere. -/
theorem share_at (n : BitVec 32) (x : FVec Ideal S2048x512 .bf16) (e : IVec S2048x1 32) (W : Vec Ideal S1x512x1024 .bf16) (i : Fin 2048) (h : Fin 1024) :
    (share n x e W (ix2 i h) : EReal) = if e (ix2 i (0 : Fin 1)) = n then ∑ k : Fin 512, (x (ix2 i k) * W (ix3 (0 : Fin 1) k h) : EReal) else (0 : EReal) := by
  have hp : (share n x e W (ix2 i h) : EReal) = ∑ k : Fin 512, ((x (ix2 i k) : EReal) * (FloatOps.sitofp (F := Ideal) .f32 ((IntOp.cmpi .eq (e (ix2 i (0 : Fin 1))) n).setWidth 32) : EReal) * W (ix3 (0 : Fin 1) k h) : EReal) := by
    unfold share masked
    pointwise []
  rw [hp]
  simp only [bit_eq]
  split
  · simp
  · simp

variable (m : (ℓ : Loc nD τ sig) → Buf (Elt F) ℓ) (ρ : Dev nD → PrngReg)

/-- The sums, share by share. -/
theorem out1_eq (c : Dev nD) : out1 m ρ c = addf (addf (addf (share (exw (v2v c) 0#32) (xC m ρ c) (iC m ρ c) (wRd m ρ c 0 inb_S16x512x1024_S1x512x1024_0_0_0))
      (share (exw (v2v c) 1#32) (xC m ρ c) (iC m ρ c) (wRd m ρ c 1 inb_S16x512x1024_S1x512x1024_1_0_0)))
      (share (exw (v2v c) 2#32) (xC m ρ c) (iC m ρ c) (wRd m ρ c 2 inb_S16x512x1024_S1x512x1024_2_0_0)))
      (share (exw (v2v c) 3#32) (xC m ρ c) (iC m ρ c) (wRd m ρ c 3 inb_S16x512x1024_S1x512x1024_3_0_0)) := rfl
theorem out2_eq (c : Dev nD) : out2 m ρ c = addf (shapeCast S2048x1024 (out1 m ρ c) shapeCasts_S2048x1024_S2048x1024) (addf (addf (addf (share (exw (v5v c) 0#32) (xC m ρ c) (iC m ρ c) (wRd m ρ c 12 inb_S16x512x1024_S1x512x1024_12_0_0))
      (share (exw (v5v c) 1#32) (xC m ρ c) (iC m ρ c) (wRd m ρ c 13 inb_S16x512x1024_S1x512x1024_13_0_0)))
      (share (exw (v7v c) 2#32) (xC m ρ c) (iC m ρ c) (wRd m ρ c 6 inb_S16x512x1024_S1x512x1024_6_0_0)))
      (share (exw (v7v c) 3#32) (xC m ρ c) (iC m ρ c) (wRd m ρ c 7 inb_S16x512x1024_S1x512x1024_7_0_0))) := rfl
theorem out3_eq (c : Dev nD) : out3 m ρ c = addf (shapeCast S2048x1024 (out2 m ρ c) shapeCasts_S2048x1024_S2048x1024) (addf (addf (addf (share (exw (v5v c) 2#32) (xC m ρ c) (iC m ρ c) (wRd m ρ c 14 inb_S16x512x1024_S1x512x1024_14_0_0))
      (share (exw (v5v c) 3#32) (xC m ρ c) (iC m ρ c) (wRd m ρ c 15 inb_S16x512x1024_S1x512x1024_15_0_0)))
      (share (exw (v7v c) 0#32) (xC m ρ c) (iC m ρ c) (wRd m ρ c 4 inb_S16x512x1024_S1x512x1024_4_0_0)))
      (share (exw (v7v c) 1#32) (xC m ρ c) (iC m ρ c) (wRd m ρ c 5 inb_S16x512x1024_S1x512x1024_5_0_0))) := rfl
theorem out4_eq (c : Dev nD) : out4 m ρ c = addf (shapeCast S2048x1024 (out3 m ρ c) shapeCasts_S2048x1024_S2048x1024) (addf (share (exw (v9v c) 0#32) (xC m ρ c) (iC m ρ c) (wRd m ρ c 8 inb_S16x512x1024_S1x512x1024_8_0_0))
      (share (exw (v9v c) 1#32) (xC m ρ c) (iC m ρ c) (wRd m ρ c 9 inb_S16x512x1024_S1x512x1024_9_0_0))) := rfl
/-- Which tokens the device accepts: one for those, zero for the others. -/
def acc (c : Dev nD) : FVec F S2048x1 .f32 := k0_pay21 (v2v c) (k0_pay1 (istg m ρ c)) (rankC m ρ c) (cRd m ρ)
theorem outC_eq (c : Dev nD) : outC m ρ c = mulf (addf (shapeCast S2048x1024 (out4 m ρ c) shapeCasts_S2048x1024_S2048x1024) (addf (share (exw (v9v c) 2#32) (xC m ρ c) (iC m ρ c) (wRd m ρ c 10 inb_S16x512x1024_S1x512x1024_10_0_0))
      (share (exw (v9v c) 3#32) (xC m ρ c) (iC m ρ c) (wRd m ρ c 11 inb_S16x512x1024_S1x512x1024_11_0_0))))
    (broadcastTo S2048x1024 (acc m ρ c) broadcasts_S2048x1_S2048x1024) := rfl

end Cert.Moe
-- ==== Proof.Reads.lean ====
/-
What the kernel reads, in terms of the arrays at the launch, and its result at a place.
-/
module

public import proofs.«01_k».proof.Proof.Expert
public import Idealize.ShloMosaic.Lib.Pointwise.Tactic
public import Idealize.ShloMosaic.Lib.WordCmp
public import Idealize.ShloMosaic.Lib.Pointwise.Contract
public import Idealize.ShloMosaic.Lib.Pointwise.Reduce
public import Idealize.ShloMosaic.Lib.Pointwise.Sums
public import Idealize.ShloMosaic.Lib.Pointwise.Reshape

@[expose] public section

set_option maxRecDepth 16384

noncomputable section

namespace Cert.Moe

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

/-- Device `d`'s token `i` at column `k`, the expert it is for, and the weights of the device's `j`-th expert. -/
def tokX (d : Dev nD) (i : Fin 2048) (k : Fin 512) : EReal := m ((d : Thread nD τ).loc main_arg0) (ix2 i k)
def tokE (d : Dev nD) (i : Fin 2048) : BitVec 32 := m ((d : Thread nD τ).loc main_arg2) (ix2 i (0 : Fin 1))
def tokW (d : Dev nD) (j : Fin 4) (k : Fin 512) (h : Fin 1024) : EReal := m ((d : Thread nD τ).loc main_arg3) (ix3 j k h)

theorem istg_at (c : Dev nD) (i : Fin 2048) : istg m ρ c (ix2 i (0 : Fin 1)) = tokE m c i := by
  show m _ _ = m _ _
  congr 1
  funext x
  match x with
  | ⟨0, _⟩ => exact Fin.ext (by show 0 * _ + 1 * _ = _; rw [Nat.zero_mul, Nat.zero_add, Nat.one_mul])
  | ⟨1, _⟩ => exact Fin.ext (by show 0 * _ + 1 * _ = _; rw [Nat.zero_mul, Nat.zero_add, Nat.one_mul])

theorem xstg_at (c : Dev nD) (i : Fin 2048) (k : Fin 512) : xstg m ρ c (ix2 i k) = tokX m c i k := by
  show m _ _ = m _ _
  congr 1
  funext x
  match x with
  | ⟨0, _⟩ => exact Fin.ext (by show 0 * _ + 1 * _ = _; rw [Nat.zero_mul, Nat.zero_add, Nat.one_mul])
  | ⟨1, _⟩ => exact Fin.ext (by show 0 * _ + 1 * _ = _; rw [Nat.zero_mul, Nat.zero_add, Nat.one_mul])

theorem estg_at (c : Dev nD) (j : Fin 4) (k : Fin 512) (h : Fin 1024) : estg m ρ c (ix3 j k h) = tokW m c j k h := by
  show m _ _ = m _ _
  congr 1
  funext x
  match x with
  | ⟨0, _⟩ => exact Fin.ext (by show 0 * _ + 1 * _ = _; rw [Nat.zero_mul, Nat.zero_add, Nat.one_mul])
  | ⟨1, _⟩ => exact Fin.ext (by show 0 * _ + 1 * _ = _; rw [Nat.zero_mul, Nat.zero_add, Nat.one_mul])
  | ⟨2, _⟩ => exact Fin.ext (by show 0 * _ + 1 * _ = _; rw [Nat.zero_mul, Nat.zero_add, Nat.one_mul])

theorem xC_at (c : Dev nD) (i : Fin 2048) (k : Fin 512) : xC m ρ c (ix2 i k) = tokX m c i k := by
  rw [← xstg_at m ρ]
  unfold xC
  pointwise [k0_pay10]

theorem iC_at (c : Dev nD) (i : Fin 2048) : iC m ρ c (ix2 i (0 : Fin 1)) = tokE m c i := by
  rw [← istg_at m ρ]
  unfold iC
  pointwise [k0_pay11]

/-- A load of slot `p` reads the expert whose slot it is. -/
theorem wRd_at (c : Dev nD) (p : ℕ) (hp : p < 16) (hh : ∀ x, (![p, 0, 0] : Fin 3 → ℕ) x + S1x512x1024.size x ≤ S16x512x1024.size x) (k : Fin 512) (h : Fin 1024) :
    wRd m ρ c p hh (ix3 (0 : Fin 1) k h) = tokW m (sh c (p / 4)) ⟨p % 4, Nat.mod_lt _ (by decide)⟩ k h := by
  rw [← estg_at m ρ]
  have e : wRd m ρ c p hh (ix3 (0 : Fin 1) k h) = wallC m ρ c (ix3 (⟨p, hp⟩ : Fin 16) k h) := by
    show wallC m ρ c _ = _
    congr 1
    funext x
    match x with
    | ⟨0, _⟩ => exact Fin.ext (by show p + 1 * 0 = p; rw [Nat.mul_zero, Nat.add_zero])
    | ⟨1, _⟩ => exact Fin.ext (by show 0 + 1 * k.val = k.val; rw [Nat.zero_add, Nat.one_mul])
    | ⟨2, _⟩ => exact Fin.ext (by show 0 + 1 * h.val = h.val; rw [Nat.zero_add, Nat.one_mul])
  rw [e, wallC_at m ρ c (sh c (p / 4)) _ (ix3 (⟨p % 4, Nat.mod_lt _ (by decide)⟩ : Fin 4) k h) rfl rfl rfl rfl]
  pointwise [k0_pay3]

/-- What expert `j` of device `v` gives to column `h` of token `i` of device `d`: nothing unless the token is for it. -/
def part (d : Dev nD) (i : Fin 2048) (h : Fin 1024) (v : Dev nD) (j : Fin 4) : EReal :=
  if tokE m d i = BitVec.ofNat 32 (4 * v.val + j.val) then ∑ k : Fin 512, tokX m d i k * tokW m v j k h else 0

theorem share_slot (c v : Dev nD) (j : Fin 4) (n : BitVec 32) (hn : n = BitVec.ofNat 32 (4 * v.val + j.val)) (p : ℕ) (hp : p < 16) (hv : sh c (p / 4) = v) (hj : p % 4 = j.val)
    (hh : ∀ x, (![p, 0, 0] : Fin 3 → ℕ) x + S1x512x1024.size x ≤ S16x512x1024.size x) (i : Fin 2048) (h : Fin 1024) :
    share n (xC m ρ c) (iC m ρ c) (wRd m ρ c p hh) (ix2 i h) = part m c i h v j := by
  have e := share_at n (xC m ρ c) (iC m ρ c) (wRd m ρ c p hh) i h
  refine e.trans ?_
  have hj' : (⟨p % 4, Nat.mod_lt _ (by decide)⟩ : Fin 4) = j := Fin.ext hj
  unfold part
  simp only [iC_at, xC_at, wRd_at m ρ c p hp, hn, hv, hj']

/-- The words the program compares with are the experts' numbers. -/
theorem exw_own (c : Dev nD) (j : Fin 4) : exw (v2v c) (BitVec.ofNat 32 j.val) = BitVec.ofNat 32 (4 * c.val + j.val) := by revert c j; decide
theorem exw_left (c : Dev nD) (j : Fin 4) : exw (v5v c) (BitVec.ofNat 32 j.val) = BitVec.ofNat 32 (4 * (sh c 3).val + j.val) := by revert c j; decide
theorem exw_right (c : Dev nD) (j : Fin 4) : exw (v7v c) (BitVec.ofNat 32 j.val) = BitVec.ofNat 32 (4 * (sh c 1).val + j.val) := by revert c j; decide
theorem exw_far (c : Dev nD) (j : Fin 4) : exw (v9v c) (BitVec.ofNat 32 j.val) = BitVec.ofNat 32 (4 * (sh c 2).val + j.val) := by revert c j; decide

variable (c : Dev nD) (i : Fin 2048) (h : Fin 1024)

theorem out1_at : (out1 m ρ c (ix2 i h) : EReal) = ((part m c i h c 0 + part m c i h c 1) + part m c i h c 2) + part m c i h c 3 := by
  have e0 := share_slot m ρ c c 0 _ (exw_own c 0) 0 (by decide) (sh_zero c) rfl inb_S16x512x1024_S1x512x1024_0_0_0 i h
  have e1 := share_slot m ρ c c 1 _ (exw_own c 1) 1 (by decide) (sh_zero c) rfl inb_S16x512x1024_S1x512x1024_1_0_0 i h
  have e2 := share_slot m ρ c c 2 _ (exw_own c 2) 2 (by decide) (sh_zero c) rfl inb_S16x512x1024_S1x512x1024_2_0_0 i h
  have e3 := share_slot m ρ c c 3 _ (exw_own c 3) 3 (by decide) (sh_zero c) rfl inb_S16x512x1024_S1x512x1024_3_0_0 i h
  rw [← e0, ← e1, ← e2, ← e3]
  rw [out1_eq]
  pointwise []

theorem out2_at : (out2 m ρ c (ix2 i h) : EReal) = (out1 m ρ c (ix2 i h) : EReal) + (((part m c i h (sh c 3) 0 + part m c i h (sh c 3) 1) + part m c i h (sh c 1) 2) + part m c i h (sh c 1) 3) := by
  have e0 := share_slot m ρ c (sh c 3) 0 _ (exw_left c 0) 12 (by decide) rfl rfl inb_S16x512x1024_S1x512x1024_12_0_0 i h
  have e1 := share_slot m ρ c (sh c 3) 1 _ (exw_left c 1) 13 (by decide) rfl rfl inb_S16x512x1024_S1x512x1024_13_0_0 i h
  have e2 := share_slot m ρ c (sh c 1) 2 _ (exw_right c 2) 6 (by decide) rfl rfl inb_S16x512x1024_S1x512x1024_6_0_0 i h
  have e3 := share_slot m ρ c (sh c 1) 3 _ (exw_right c 3) 7 (by decide) rfl rfl inb_S16x512x1024_S1x512x1024_7_0_0 i h
  rw [← e0, ← e1, ← e2, ← e3]
  rw [out2_eq]
  pointwise []

theorem out3_at : (out3 m ρ c (ix2 i h) : EReal) = (out2 m ρ c (ix2 i h) : EReal) + (((part m c i h (sh c 3) 2 + part m c i h (sh c 3) 3) + part m c i h (sh c 1) 0) + part m c i h (sh c 1) 1) := by
  have e0 := share_slot m ρ c (sh c 3) 2 _ (exw_left c 2) 14 (by decide) rfl rfl inb_S16x512x1024_S1x512x1024_14_0_0 i h
  have e1 := share_slot m ρ c (sh c 3) 3 _ (exw_left c 3) 15 (by decide) rfl rfl inb_S16x512x1024_S1x512x1024_15_0_0 i h
  have e2 := share_slot m ρ c (sh c 1) 0 _ (exw_right c 0) 4 (by decide) rfl rfl inb_S16x512x1024_S1x512x1024_4_0_0 i h
  have e3 := share_slot m ρ c (sh c 1) 1 _ (exw_right c 1) 5 (by decide) rfl rfl inb_S16x512x1024_S1x512x1024_5_0_0 i h
  rw [← e0, ← e1, ← e2, ← e3]
  rw [out3_eq]
  pointwise []

theorem out4_at : (out4 m ρ c (ix2 i h) : EReal) = (out3 m ρ c (ix2 i h) : EReal) + (part m c i h (sh c 2) 0 + part m c i h (sh c 2) 1) := by
  have e0 := share_slot m ρ c (sh c 2) 0 _ (exw_far c 0) 8 (by decide) rfl rfl inb_S16x512x1024_S1x512x1024_8_0_0 i h
  have e1 := share_slot m ρ c (sh c 2) 1 _ (exw_far c 1) 9 (by decide) rfl rfl inb_S16x512x1024_S1x512x1024_9_0_0 i h
  rw [← e0, ← e1]
  rw [out4_eq]
  pointwise []

theorem outC_raw : (outC m ρ c (ix2 i h) : EReal) = ((out4 m ρ c (ix2 i h) : EReal) + (part m c i h (sh c 2) 2 + part m c i h (sh c 2) 3)) * (acc m ρ c (ix2 i (0 : Fin 1)) : EReal) := by
  have e0 := share_slot m ρ c (sh c 2) 2 _ (exw_far c 2) 10 (by decide) rfl rfl inb_S16x512x1024_S1x512x1024_10_0_0 i h
  have e1 := share_slot m ρ c (sh c 2) 3 _ (exw_far c 3) 11 (by decide) rfl rfl inb_S16x512x1024_S1x512x1024_11_0_0 i h
  rw [← e0, ← e1]
  rw [outC_eq]
  pointwise []

/-- The four devices, seen from any one of them, are all the devices. -/
theorem sum_sh (f : Dev nD → EReal) : ∑ v, f v = f c + f (sh c 3) + f (sh c 1) + f (sh c 2) := by
  rw [Fin.sum_univ_four]
  fin_cases c
  · show f 0 + f 1 + f 2 + f 3 = f 0 + f 3 + f 1 + f 2
    abel
  · show f 0 + f 1 + f 2 + f 3 = f 1 + f 0 + f 2 + f 3
    abel
  · show f 0 + f 1 + f 2 + f 3 = f 2 + f 1 + f 3 + f 0
    abel
  · show f 0 + f 1 + f 2 + f 3 = f 3 + f 2 + f 0 + f 1
    abel

/-- The kernel's result at a place: what all the experts give, if the token is accepted. -/
theorem outC_at : (outC m ρ c (ix2 i h) : EReal) = (∑ v : Dev nD, ∑ j : Fin 4, part m c i h v j) * (acc m ρ c (ix2 i (0 : Fin 1)) : EReal) := by
  rw [outC_raw, out4_at, out3_at, out2_at, out1_at, sum_sh c]
  simp only [Fin.sum_univ_four]
  congr 1
  abel

end Cert.Moe
-- ==== Proof.Rank.lean ====
/-
The place of each token in its expert's queue, as the kernel counts it.
-/
module

public import proofs.«01_k».proof.Proof.Reads
public import Idealize.ShloMosaic.Lib.Pointwise.Tactic
public import Idealize.ShloMosaic.Lib.WordCmp
public import Idealize.ShloMosaic.Lib.Pointwise.Contract
public import Idealize.ShloMosaic.Lib.Pointwise.Reduce
public import Idealize.ShloMosaic.Lib.Pointwise.Sums
public import Idealize.ShloMosaic.Lib.Pointwise.Reshape

@[expose] public section

set_option maxRecDepth 16384

noncomputable section

namespace Cert.Moe

open Cert.KernelIdeal Cert.KernelIdeal.Gen
open Idealize.ShloMosaic Idealize.ShloMosaic.TcCoe
open Idealize.SL.Sem

section
variable {F : FTy → Type} [FloatOps F]

/-- One step of the running sums: every row gets the sum `s` rows above added, where there is one. -/
def scanStep (s : BitVec 32) (x : FVec F S2048x128 .f32) : FVec F S2048x128 .f32 :=
  addf x (select (cmpi .sge (iota .tc S2048x128 32 [0] iota_S2048x128_d0_w32) (broadcast S2048x128 s))
    (dynamicRotate 0 s none x rotates_S2048x128_d0) (broadcast S2048x128 (Scalar.ofBits .f32 0x00000000#32)))

theorem rankC_eq (m : (ℓ : Loc nD τ sig) → Buf (Elt F) ℓ) (ρ : Dev nD → PrngReg) (c : Dev nD) :
    rankC m ρ c = subf (scanStep 1024#32 (scanStep 512#32 (scanStep 256#32 (scanStep 128#32 (scanStep 64#32 (scanStep 32#32 (scanStep 16#32 (scanStep 8#32
      (scanStep 4#32 (scanStep 2#32 (scanStep 1#32 (k0_pay1 (istg m ρ c))))))))))))) (k0_pay1 (istg m ρ c)) := rfl
end

theorem scanStep_at (s : ℕ) (hs : s ≤ 1024) (x : FVec Ideal S2048x128 .f32) (i : Fin 2048) (l : Fin 128) :
    (scanStep (BitVec.ofNat 32 s) x (ix2 i l) : EReal) = (x (ix2 i l) : EReal) + (if s ≤ i.val then (x (ix2 (⟨i.val - s, by omega⟩ : Fin 2048) l) : EReal) else 0) := by
  have hp : (scanStep (BitVec.ofNat 32 s) x (ix2 i l) : EReal) = (x (ix2 i l) : EReal) + Scalar.select (IntOp.cmpi .sge (BitVec.ofNat 32 i.val) (BitVec.ofNat 32 s))
      (x (ix2 (⟨(i.val + 2048 - (BitVec.ofNat 32 s).toNat % 2048) % 2048, Nat.mod_lt _ (by decide)⟩ : Fin 2048) l) : EReal) (0 : EReal) := by
    unfold scanStep
    pointwise []
  rw [hp, WordCmp.cmpi_sge_ofNat (by have := i.isLt; norm_num; omega) (by norm_num; omega), WordCmp.select_ofBool]
  congr 1
  by_cases h : s ≤ i.val
  · simp only [h, decide_true, if_true]
    congr 2
    refine Fin.ext ?_
    show (i.val + 2048 - (BitVec.ofNat 32 s).toNat % 2048) % 2048 = i.val - s
    rw [BitVec.toNat_ofNat]
    have := i.isLt
    omega
  · simp only [h, decide_false, if_false]
    rfl

variable (m : (ℓ : Loc nD τ sig) → Buf (Elt Ideal) ℓ) (ρ : Dev nD → PrngReg)

theorem oh_at (c : Dev nD) (i : Fin 2048) (l : Fin 128) : (k0_pay1 (istg m ρ c) (ix2 i l) : EReal) = if tokE m c i = BitVec.ofNat 32 l.val then (1 : EReal) else 0 := by
  rw [← bit_eq, ← istg_at m ρ]
  pointwise [k0_pay1]

/-- Device `c`'s tokens' experts, by row number. -/
def rowE (c : Dev nD) (r : ℕ) : BitVec 32 := if h : r < 2048 then tokE m c ⟨r, h⟩ else 0

/-- How many of device `c`'s first `n` tokens are for expert `w`. -/
def seen (c : Dev nD) (w : BitVec 32) (n : ℕ) : ℕ := Nat.count (fun r => rowE m c r = w) n

theorem seen_succ (c : Dev nD) (w : BitVec 32) (i : Fin 2048) : seen m c w (i.val + 1) = seen m c w i.val + if tokE m c i = w then 1 else 0 := by
  unfold seen
  rw [Nat.count_succ]
  unfold rowE
  rw [dif_pos i.isLt]

theorem seen_mono (c : Dev nD) (w : BitVec 32) {a b : ℕ} (h : a ≤ b) : seen m c w a ≤ seen m c w b := Nat.count_monotone _ h

/-- After the steps up to `s`, a row holds the count over the `2 s` rows that end with it. -/
theorem scan_at (c : Dev nD) (s : ℕ) (hs : s ≤ 1024) (x : FVec Ideal S2048x128 .f32)
    (hx : ∀ (i : Fin 2048) (l : Fin 128), (x (ix2 i l) : EReal) = ((seen m c (BitVec.ofNat 32 l.val) (i.val + 1) - seen m c (BitVec.ofNat 32 l.val) (i.val + 1 - s) : ℕ) : EReal)) :
    ∀ (i : Fin 2048) (l : Fin 128), (scanStep (BitVec.ofNat 32 s) x (ix2 i l) : EReal)
      = ((seen m c (BitVec.ofNat 32 l.val) (i.val + 1) - seen m c (BitVec.ofNat 32 l.val) (i.val + 1 - 2 * s) : ℕ) : EReal) := by
  intro i l
  rw [scanStep_at s hs]
  generalize hw : BitVec.ofNat 32 l.val = w at *
  by_cases h : s ≤ i.val
  · rw [if_pos h, hx, hx, hw, ← Nat.cast_add]
    congr 1
    have e1 : i.val - s + 1 = i.val + 1 - s := by omega
    have e2 : i.val - s + 1 - s = i.val + 1 - 2 * s := by omega
    show _ - _ + (seen m c w (i.val - s + 1) - seen m c w (i.val - s + 1 - s)) = _
    rw [e2, e1]
    have h1 := seen_mono m c w (show i.val + 1 - s ≤ i.val + 1 by omega)
    have h2 := seen_mono m c w (show i.val + 1 - 2 * s ≤ i.val + 1 - s by omega)
    omega
  · rw [if_neg h, hx, hw, add_zero]
    have e1 : i.val + 1 - s = 0 := by omega
    have e2 : i.val + 1 - 2 * s = 0 := by omega
    rw [e1, e2]

/-- The rank: how many tokens above are for the expert. -/
theorem rank_at (c : Dev nD) (i : Fin 2048) (l : Fin 128) : (rankC m ρ c (ix2 i l) : EReal) = ((seen m c (BitVec.ofNat 32 l.val) i.val : ℕ) : EReal) := by
  have h0 : ∀ (i : Fin 2048) (l : Fin 128), (k0_pay1 (istg m ρ c) (ix2 i l) : EReal) = ((seen m c (BitVec.ofNat 32 l.val) (i.val + 1) - seen m c (BitVec.ofNat 32 l.val) (i.val + 1 - 1) : ℕ) : EReal) := by
    intro i l
    rw [oh_at, Nat.add_sub_cancel, seen_succ, Nat.add_sub_cancel_left]
    split <;> simp
  have h := scan_at m c 1024 (by decide) _ (scan_at m c 512 (by decide) _ (scan_at m c 256 (by decide) _ (scan_at m c 128 (by decide) _ (scan_at m c 64 (by decide) _
    (scan_at m c 32 (by decide) _ (scan_at m c 16 (by decide) _ (scan_at m c 8 (by decide) _ (scan_at m c 4 (by decide) _ (scan_at m c 2 (by decide) _
    (scan_at m c 1 (by decide) _ h0)))))))))) i l
  rw [rankC_eq]
  have e : i.val + 1 - 2 * 1024 = 0 := by have := i.isLt; omega
  rw [e] at h
  have hz : seen m c (BitVec.ofNat 32 l.val) 0 = 0 := Nat.count_zero _
  rw [hz, Nat.sub_zero, seen_succ] at h
  have hs : ∀ x y : FVec Ideal S2048x128 .f32, (subf x y (ix2 i l) : EReal) = (x (ix2 i l) : EReal) - (y (ix2 i l) : EReal) := fun x y => rfl
  rw [hs, h, oh_at]
  split
  · rw [Nat.cast_add, Nat.cast_one]
    exact EReal.add_sub_cancel_right (b := (1 : ℝ))
  · simp

end Cert.Moe
-- ==== Proof.Accept.lean ====
/-
Which tokens the kernel accepts: those with fewer than 409 earlier ones for the same expert.
-/
module

public import proofs.«01_k».proof.Proof.Rank
public import Idealize.ShloMosaic.Lib.Pointwise.Tactic
public import Idealize.ShloMosaic.Lib.WordCmp
public import Idealize.ShloMosaic.Lib.Pointwise.Contract
public import Idealize.ShloMosaic.Lib.Pointwise.Reduce
public import Idealize.ShloMosaic.Lib.Pointwise.Sums
public import Idealize.ShloMosaic.Lib.Pointwise.Reshape

@[expose] public section

set_option maxRecDepth 16384

noncomputable section

namespace Cert.Moe

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

theorem sum_seen (c : Dev nD) (w : BitVec 32) : ∑ i : Fin 2048, (if tokE m c i = w then (1 : EReal) else 0) = ((seen m c w 2048 : ℕ) : EReal) := by
  have h : ∀ i : Fin 2048, (if tokE m c i = w then (1 : EReal) else 0) = (fun r : ℕ => if rowE m c r = w then (1 : EReal) else 0) i.val := by
    intro i
    show _ = if rowE m c i.val = w then (1 : EReal) else 0
    unfold rowE
    rw [dif_pos i.isLt]
  rw [Finset.sum_congr rfl (fun i _ => h i), Fin.sum_univ_eq_sum_range (fun r : ℕ => if rowE m c r = w then (1 : EReal) else 0), Finset.sum_boole]
  unfold seen
  rw [Nat.count_eq_card_filter_range]

/-- A device's counts. -/
theorem cnt_at (c : Dev nD) (l : Fin 128) : (k0_pay2 (istg m ρ c) (ix3 (0 : Fin 1) (0 : Fin 8) l) : EReal) = ((seen m c (BitVec.ofNat 32 l.val) 2048 : ℕ) : EReal) := by
  rw [← sum_seen]
  have hp : (k0_pay2 (istg m ρ c) (ix3 (0 : Fin 1) (0 : Fin 8) l) : EReal) = ∑ i : Fin 2048, (k0_pay1 (istg m ρ c) (ix2 i l) : EReal) := by
    unfold k0_pay2
    pointwise []
  rw [hp]
  exact Finset.sum_congr rfl fun i _ => oh_at m ρ c i l

theorem cRd_at (r : Fin 4) (l : Fin 128) : (cRd m ρ (ix3 r (0 : Fin 1) l) : EReal) = ((seen m r (BitVec.ofNat 32 l.val) 2048 : ℕ) : EReal) := by
  rw [← cnt_at m ρ]
  have e : cRd m ρ (ix3 r (0 : Fin 1) l) = cntC m ρ (ix3 r (0 : Fin 8) l) := by
    show cntC m ρ _ = _
    congr 1
    funext x
    match x with
    | ⟨0, _⟩ => exact Fin.ext (by show 0 + 1 * r.val = r.val; rw [Nat.zero_add, Nat.one_mul])
    | ⟨1, _⟩ => exact Fin.ext (by show 0 + 1 * 0 = 0; rfl)
    | ⟨2, _⟩ => exact Fin.ext (by show 0 + 1 * l.val = l.val; rw [Nat.zero_add, Nat.one_mul])
  rw [e]
  show k0_pay2 (istg m ρ r) _ = _
  congr 1
  funext x
  match x with
  | ⟨0, _⟩ => rfl
  | ⟨1, _⟩ => rfl
  | ⟨2, _⟩ => rfl

theorem limit : Ideal.ofBits .f32 0x43CC8000#32 = ((409 : ℝ) : EReal) := by
  simp [Ideal.ofBits, Ideal.ieee, -EReal.coe_mul]; norm_num

/-- How many tokens before the device's token `i`, on all devices, are for expert `w`. -/
def ahead (c : Dev nD) (w : BitVec 32) (i : ℕ) : ℕ := (∑ r : Fin 4, if r.val < c.val then seen m r w 2048 else 0) + seen m c w i

theorem v2v_eq (c : Dev nD) : v2v c = BitVec.ofNat 32 c.val := by revert c; decide

theorem off_at (c : Dev nD) (l : Fin 128) (i : Fin 2048) :
    (∑ r : Fin 4, (Scalar.select (IntOp.cmpi .slt (BitVec.ofNat 32 r.val) (v2v c)) (cRd m ρ (ix3 r (0 : Fin 1) l) : EReal) (0 : EReal) : EReal)) + (rankC m ρ c (ix2 i l) : EReal)
      = ((ahead m c (BitVec.ofNat 32 l.val) i.val : ℕ) : EReal) := by
  unfold ahead
  rw [Nat.cast_add, rank_at, Nat.cast_sum]
  congr 1
  refine Finset.sum_congr rfl fun r _ => ?_
  have hr := r.isLt
  have hc : c.val < 4 := c.isLt
  rw [v2v_eq, WordCmp.cmpi_slt_ofNat (by norm_num; omega) (by norm_num; omega), WordCmp.select_ofBool, cRd_at]
  by_cases h : r.val < c.val <;> simp [h]

/-- One for an accepted token, zero for the others. -/
theorem acc_at (c : Dev nD) (i : Fin 2048) : (acc m ρ c (ix2 i (0 : Fin 1)) : EReal)
    = if (tokE m c i).toNat < 128 ∧ ahead m c (tokE m c i) i.val < 409 then (1 : EReal) else 0 := by
  have hp : (acc m ρ c (ix2 i (0 : Fin 1)) : EReal) = ∑ l : Fin 128, (Scalar.select (Ideal.cmp .olt
      ((∑ r : Fin 4, (Scalar.select (IntOp.cmpi .slt (BitVec.ofNat 32 r.val) (v2v c)) (cRd m ρ (ix3 r (0 : Fin 1) l) : EReal) (0 : EReal) : EReal)) + (rankC m ρ c (ix2 i l) : EReal))
      (Ideal.ofBits .f32 0x43CC8000#32)) (k0_pay1 (istg m ρ c) (ix2 i l) : EReal) (0 : EReal) : EReal) := by
    unfold acc k0_pay21
    pointwise []
    rfl
  rw [hp]
  have ht : ∀ l : Fin 128, (Scalar.select (Ideal.cmp .olt
      ((∑ r : Fin 4, (Scalar.select (IntOp.cmpi .slt (BitVec.ofNat 32 r.val) (v2v c)) (cRd m ρ (ix3 r (0 : Fin 1) l) : EReal) (0 : EReal) : EReal)) + (rankC m ρ c (ix2 i l) : EReal))
      (Ideal.ofBits .f32 0x43CC8000#32)) (k0_pay1 (istg m ρ c) (ix2 i l) : EReal) (0 : EReal) : EReal)
      = if tokE m c i = BitVec.ofNat 32 l.val then (if ahead m c (tokE m c i) i.val < 409 then (1 : EReal) else 0) else 0 := by
    intro l
    rw [off_at, limit, oh_at]
    unfold Ideal.cmp
    rw [WordCmp.select_ofBool]
    by_cases hl : tokE m c i = BitVec.ofNat 32 l.val
    · rw [if_pos hl, if_pos hl, ← hl]
      have hlt : (((ahead m c (tokE m c i) i.val : ℕ) : EReal) < ((409 : ℝ) : EReal)) ↔ ahead m c (tokE m c i) i.val < 409 := by
        rw [← EReal.coe_coe_eq_natCast, EReal.coe_lt_coe_iff]
        exact_mod_cast Iff.rfl
      by_cases hk : ahead m c (tokE m c i) i.val < 409
      · simp [hk, hlt.2 hk]
      · simp [hk, mt hlt.1 hk]
    · rw [if_neg hl, if_neg hl, ite_self]
  rw [Finset.sum_congr rfl fun l _ => ht l]
  by_cases hw : (tokE m c i).toNat < 128
  · rw [Finset.sum_eq_single (⟨(tokE m c i).toNat, hw⟩ : Fin 128)]
    · have e : tokE m c i = BitVec.ofNat 32 (tokE m c i).toNat := by simp
      rw [if_pos e]
      simp only [hw, true_and]
    · intro l _ hl
      refine if_neg fun h => hl (Fin.ext ?_)
      show l.val = (tokE m c i).toNat
      rw [h, BitVec.toNat_ofNat]
      have := l.isLt
      omega
    · intro h
      exact absurd (Finset.mem_univ _) h
  · have hn : ¬((tokE m c i).toNat < 128 ∧ ahead m c (tokE m c i) i.val < 409) := fun h => hw h.1
    rw [if_neg hn]
    refine Finset.sum_eq_zero fun l _ => if_neg fun h => hw ?_
    rw [h, BitVec.toNat_ofNat]
    have := l.isLt
    omega

end Cert.Moe
-- ==== Proof.RefValue.lean ====
/-
The reference read at a place: each token times its expert's weights, if fewer than 409 earlier tokens are for that expert.
-/
module

public import proofs.«01_k».proof.Proof.Gen.ReferenceIdeal.Run
public import Idealize.ShloMosaic.Lib.Pointwise.Tactic
public import Idealize.ShloMosaic.Lib.IndicatorCount
public import Idealize.ShloMosaic.Lib.WordCmp
public import Idealize.ShloMosaic.Lib.Pointwise.Contract
public import Idealize.ShloMosaic.Lib.Pointwise.Reduce
public import Idealize.ShloMosaic.Lib.Pointwise.Sums
public import Idealize.ShloMosaic.Lib.Pointwise.Reshape

@[expose] public section

set_option maxRecDepth 16384

noncomputable section

namespace Cert.Moe.Plain

open Cert.ReferenceIdeal Cert.ReferenceIdeal.Gen Cert.ReferenceIdeal.Value
open Idealize.ShloMosaic Idealize.ShloMosaic.TcCoe
open Idealize.SL.Sem

section
variable {F : FTy → Type} [FloatOps F]

/-- What the reference adds for expert `n`. -/
def added (V : Valuation τ sig (Elt F)) (n : ℕ) (hs : S16x512x1024.Slices ![n, 0, 0] S1x512x1024) : FVec F S8192x1024 .f32 :=
  select (broadcastInDim S8192x1024 ![0, 1] bcast_S8192x1_S8192x1024_0_1 (broadcastInDim S8192x1 ![0] bcast_S8192_S8192x1_0
      (andi (res_main_v16 V) (cmpi .eq (res_main_v0 V) (broadcastInDim S8192 ![] bcast_S_S8192 (constantI S_ 32 (BitVec.ofNat 32 n)))))))
    (Host.dotGeneral dot_S8192x512_S512x1024_S8192x1024_1_0_0_1_n_n none (V (Proc.devRef .tc main_arg0) : FVec F S8192x512 .f32)
      (shapeCast S512x1024 (extractStridedSlice S1x512x1024 ![n, 0, 0] (V (Proc.devRef .tc main_arg3) : FVec F S16x512x1024 .f32) hs) shapeCasts_S1x512x1024_S512x1024))
    (broadcastInDim S8192x1024 ![] bcast_S_S8192x1024 (constant S_ .f32 0x00000000#32))

theorem v80_eq (V : Valuation τ sig (Elt F)) : res_main_v80 V = addf (addf (addf (addf (addf (addf (addf (broadcastInDim S8192x1024 ![] bcast_S_S8192x1024 (constant S_ .f32 0x00000000#32))
    (added V 0 slices_S16x512x1024_S1x512x1024_0_0_0)) (added V 1 slices_S16x512x1024_S1x512x1024_1_0_0)) (added V 2 slices_S16x512x1024_S1x512x1024_2_0_0))
    (added V 3 slices_S16x512x1024_S1x512x1024_3_0_0)) (added V 4 slices_S16x512x1024_S1x512x1024_4_0_0)) (added V 5 slices_S16x512x1024_S1x512x1024_5_0_0))
    (added V 6 slices_S16x512x1024_S1x512x1024_6_0_0) := rfl

theorem v143_eq (V : Valuation τ sig (Elt F)) : res_main_v143 V = addf (addf (addf (addf (addf (addf (addf (res_main_v80 V)
    (added V 7 slices_S16x512x1024_S1x512x1024_7_0_0)) (added V 8 slices_S16x512x1024_S1x512x1024_8_0_0)) (added V 9 slices_S16x512x1024_S1x512x1024_9_0_0))
    (added V 10 slices_S16x512x1024_S1x512x1024_10_0_0)) (added V 11 slices_S16x512x1024_S1x512x1024_11_0_0)) (added V 12 slices_S16x512x1024_S1x512x1024_12_0_0))
    (added V 13 slices_S16x512x1024_S1x512x1024_13_0_0) := rfl

/-- The reference's result. -/
def result (V : Valuation τ sig (Elt F)) : FVec F S8192x1024 .f32 :=
  addf (addf (res_main_v143 V) (added V 14 slices_S16x512x1024_S1x512x1024_14_0_0)) (added V 15 slices_S16x512x1024_S1x512x1024_15_0_0)

/-- Its run, with that name. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v161) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := Value.run m ρ
end

variable (V : Valuation τ sig (Elt Ideal))

/-- The token's expert, its column `k`, and expert `n`'s weights, as the reference reads them. -/
def refE (I : Fin 8192) : BitVec 32 := V (Proc.devRef .tc main_arg2) (ix2 I (0 : Fin 1))
def refX (I : Fin 8192) (k : Fin 512) : EReal := V (Proc.devRef .tc main_arg0) (ix2 I k)
def refW (n : ℕ) (k : Fin 512) (h : Fin 1024) : EReal := V (Proc.devRef .tc main_arg3) (ix3 (⟨n % 16, Nat.mod_lt _ (by decide)⟩ : Fin 16) k h)

/-- The experts by token number. -/
def flatE (J : ℕ) : BitVec 32 := if h : J < 8192 then refE V ⟨J, h⟩ else 0

/-- How many tokens before token `I` are for its expert. -/
def earlier (I : Fin 8192) : ℕ := Nat.count (fun J => flatE V J = refE V I) I.val

theorem and_one (a b : BitVec 1) : IntOp.andi a b = 1#1 ↔ a = 1#1 ∧ b = 1#1 := by revert a b; decide

theorem earlier_card (I : Fin 8192) : (Finset.univ.filter fun x : Fin 8192 =>
    IntOp.andi (IntOp.cmpi .eq (refE V x) (refE V I)) (IntOp.cmpi .slt (BitVec.ofNat 32 x.val) (BitVec.ofNat 32 I.val)) = 1#1).card = earlier V I := by
  unfold earlier
  rw [Nat.count_eq_card_filter_range]
  refine Finset.card_bij (fun x _ => x.val) ?_ (fun x _ y _ h => Fin.ext h) ?_
  · intro x hx
    have hx := (Finset.mem_filter.1 hx).2
    rw [and_one, WordCmp.cmpi_eq_eq, WordCmp.cmpi_slt_ofNat (by have := x.isLt; norm_num; omega) (by have := I.isLt; norm_num; omega)] at hx
    refine Finset.mem_filter.2 ⟨Finset.mem_range.2 ?_, ?_⟩
    · by_contra hc
      simp [hc] at hx
    · show flatE V x.val = _
      unfold flatE
      rw [dif_pos x.isLt]
      by_contra hc
      simp [hc] at hx
  · intro J hJ
    have hJ := Finset.mem_filter.1 hJ
    have h1 : J < I.val := Finset.mem_range.1 hJ.1
    have h2 : J < 8192 := lt_trans h1 I.isLt
    have h3 : flatE V J = refE V I := hJ.2
    unfold flatE at h3
    rw [dif_pos h2] at h3
    refine ⟨⟨J, h2⟩, Finset.mem_filter.2 ⟨Finset.mem_univ _, ?_⟩, rfl⟩
    rw [and_one, WordCmp.cmpi_eq_eq, WordCmp.cmpi_slt_ofNat (by norm_num; omega) (by have := I.isLt; norm_num; omega)]
    simp [h1, h3]

theorem earlier_le (I : Fin 8192) : earlier V I ≤ 8192 := le_trans (Nat.count_le _) I.isLt.le

theorem v16_at (I : Fin 8192) : res_main_v16 V (ix1 I) = BitVec.ofBool (decide (earlier V I < 409)) := by
  have hp : res_main_v16 V (ix1 I) = IntOp.cmpi .slt (Finset.fold IntOp.addi (0#32) (fun x : Fin 8192 =>
      (IntOp.andi (IntOp.cmpi .eq (refE V x) (refE V I)) (IntOp.cmpi .slt (BitVec.ofNat 32 x.val) (BitVec.ofNat 32 I.val))).setWidth 32) Finset.univ) 409#32 := by
    unfold res_main_v16 refE
    pointwise [res_main_v0, res_main_v1]
  rw [hp, IndicatorCount.fold_addi_setWidth_eq_card, earlier_card]
  exact WordCmp.cmpi_slt_ofNat (by have := earlier_le V I; norm_num; omega) (by norm_num)

/-- What one expert adds, at a place. -/
def plain (I : Fin 8192) (h : Fin 1024) (n : ℕ) : EReal :=
  if earlier V I < 409 ∧ refE V I = BitVec.ofNat 32 n then ∑ k : Fin 512, refX V I k * refW V n k h else 0

theorem added_at (n : ℕ) (hn : n < 16) (hs : S16x512x1024.Slices ![n, 0, 0] S1x512x1024) (I : Fin 8192) (h : Fin 1024) :
    (added V n hs (ix2 I h) : EReal) = plain V I h n := by
  have hf : (⟨n % 16, Nat.mod_lt _ (by decide)⟩ : Fin 16) = ⟨n, hn⟩ := Fin.ext (Nat.mod_eq_of_lt hn)
  have hp : (added V n hs (ix2 I h) : EReal) = Scalar.select (IntOp.andi (res_main_v16 V (ix1 I)) (IntOp.cmpi .eq (refE V I) (BitVec.ofNat 32 n)))
      (∑ k : Fin 512, refX V I k * refW V n k h) (0 : EReal) := by
    unfold added refE refX refW
    rw [hf]
    pointwise [res_main_v0]
  rw [hp, v16_at, WordCmp.cmpi_eq_eq]
  unfold plain
  by_cases h1 : earlier V I < 409
  · by_cases h2 : refE V I = BitVec.ofNat 32 n
    · simp only [h1, h2, decide_true, true_and, if_true]; rfl
    · simp only [h1, h2, decide_true, decide_false, true_and, if_false]; rfl
  · by_cases h2 : refE V I = BitVec.ofNat 32 n
    · simp only [h1, h2, decide_true, decide_false, false_and, if_false]; rfl
    · simp only [h1, h2, decide_false, false_and, if_false]; rfl

/-- Sixteen terms one after another are the same taken four by four. -/
theorem sum16 (f : ℕ → EReal) : 0 + f 0 + f 1 + f 2 + f 3 + f 4 + f 5 + f 6 + f 7 + f 8 + f 9 + f 10 + f 11 + f 12 + f 13 + f 14 + f 15 = ∑ v : Fin 4, ∑ j : Fin 4, f (4 * v.val + j.val) := by
  simp only [Fin.sum_univ_four, Fin.isValue, Fin.val_zero, Fin.val_one, Fin.val_two, (by decide : ((3 : Fin 4) : ℕ) = 3)]
  norm_num only
  abel

theorem add_at {x y : FVec Ideal S8192x1024 .f32} {i : S8192x1024.Idx} {a b : EReal} (hx : x i = a) (hy : y i = b) : (addf x y i : EReal) = a + b := by
  rw [← hx, ← hy]
  rfl

theorem zero_at (I : Fin 8192) (h : Fin 1024) : ((broadcastInDim S8192x1024 ![] bcast_S_S8192x1024 (constant S_ .f32 0x00000000#32) : FVec Ideal S8192x1024 .f32) (ix2 I h) : EReal) = 0 := by
  pointwise []

theorem v80_at (I : Fin 8192) (h : Fin 1024) : ((res_main_v80 V : FVec Ideal S8192x1024 .f32) (ix2 I h) : EReal) = 0 + plain V I h 0 + plain V I h 1 + plain V I h 2 + plain V I h 3 + plain V I h 4 + plain V I h 5 + plain V I h 6 := by
  rw [v80_eq]
  exact add_at (add_at (add_at (add_at (add_at (add_at (add_at (zero_at I h) (added_at V 0 (by decide) slices_S16x512x1024_S1x512x1024_0_0_0 I h)) (added_at V 1 (by decide) slices_S16x512x1024_S1x512x1024_1_0_0 I h)) (added_at V 2 (by decide) slices_S16x512x1024_S1x512x1024_2_0_0 I h)) (added_at V 3 (by decide) slices_S16x512x1024_S1x512x1024_3_0_0 I h)) (added_at V 4 (by decide) slices_S16x512x1024_S1x512x1024_4_0_0 I h)) (added_at V 5 (by decide) slices_S16x512x1024_S1x512x1024_5_0_0 I h)) (added_at V 6 (by decide) slices_S16x512x1024_S1x512x1024_6_0_0 I h)

theorem v143_at (I : Fin 8192) (h : Fin 1024) : ((res_main_v143 V : FVec Ideal S8192x1024 .f32) (ix2 I h) : EReal) = 0 + plain V I h 0 + plain V I h 1 + plain V I h 2 + plain V I h 3 + plain V I h 4 + plain V I h 5 + plain V I h 6 + plain V I h 7 + plain V I h 8 + plain V I h 9 + plain V I h 10 + plain V I h 11 + plain V I h 12 + plain V I h 13 := by
  rw [v143_eq]
  exact add_at (add_at (add_at (add_at (add_at (add_at (add_at (v80_at V I h) (added_at V 7 (by decide) slices_S16x512x1024_S1x512x1024_7_0_0 I h)) (added_at V 8 (by decide) slices_S16x512x1024_S1x512x1024_8_0_0 I h)) (added_at V 9 (by decide) slices_S16x512x1024_S1x512x1024_9_0_0 I h)) (added_at V 10 (by decide) slices_S16x512x1024_S1x512x1024_10_0_0 I h)) (added_at V 11 (by decide) slices_S16x512x1024_S1x512x1024_11_0_0 I h)) (added_at V 12 (by decide) slices_S16x512x1024_S1x512x1024_12_0_0 I h)) (added_at V 13 (by decide) slices_S16x512x1024_S1x512x1024_13_0_0 I h)

/-- The reference at a place: what the experts add, the experts taken four by four. -/
theorem result_at (I : Fin 8192) (h : Fin 1024) :
    (result V (ix2 I h) : EReal) = ∑ v : Fin 4, ∑ j : Fin 4, plain V I h (4 * v.val + j.val) := by
  unfold result
  exact (add_at (add_at (v143_at V I h) (added_at V 14 (by decide) slices_S16x512x1024_S1x512x1024_14_0_0 I h)) (added_at V 15 (by decide) slices_S16x512x1024_S1x512x1024_15_0_0 I h)).trans (sum16 (plain V I h))

end Cert.Moe.Plain
-- ==== Proof.Deal.lean ====
/-
Before the launch: every device's cells, tokens, places and credit are dealt out.
-/
module

public import proofs.«01_k».proof.Proof.Body

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own eighteen semaphores. -/
def osem (k : Fin 18) : SemLoc sig := .dma (dq k)
set_option maxRecDepth 8000 in
theorem ownSemFacts : Pipeline.OwnSemFacts cfg0.spec osem := by decide

theorem csem_injective : Function.Injective csem := by decide
theorem kcell_injective : Function.Injective (kcell : Dev nD × Fin 19 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The tokens minted on a device's cells: `false` on each, and `true` on its barrier. -/
def tokSem (j : Fin 20) : SemLoc sig × Bool := if h : j.val < 19 then (csem ⟨j.val, h⟩, false) else (.reg barS, true)
theorem tokSem_injective : Function.Injective tokSem := by decide
def tokOf (cj : Dev nD × Fin 20) : GSem nD τ sig × ℕ × Bool := (((cj.1 : Thread nD τ), (tokSem cj.2).1), 0, (tokSem cj.2).2)
theorem tokOf_injective : Function.Injective tokOf := by
  rintro ⟨c, j⟩ ⟨c', j'⟩ h
  have h1 : c = c' := congrArg (fun x : GSem nD τ sig × ℕ × Bool => x.1.1.1) h
  have h2 : j = j' := tokSem_injective (Prod.ext (congrArg (fun x : GSem nD τ sig × ℕ × Bool => x.1.2) h) (congrArg (fun x : GSem nD τ sig × ℕ × Bool => x.2.2) h))
  rw [h1, h2]
def allToks : Finset (GSem nD τ sig × ℕ × Bool) := Finset.univ.map ⟨tokOf, tokOf_injective⟩

/-- The ghost element of the launch: the staging pipeline's part and the exchange's. -/
def u₀ : UU := (initOf (Pipeline.cells cfgs cellOf_inj) (Pipeline.launchToks cfgs cellOf_inj), initOf allCells allToks)

def btT (c : Dev nD) : sProp 𝕄 := dutyTok ER (barCell c) 0 true
def btF (c : Dev nD) : sProp 𝕄 := dutyTok ER (barCell c) 0 false
/-- The tokens of a device's send cells, of the cells its left neighbour sends to, of those its right neighbour sends to. -/
def toksO (c : Dev nD) : sProp 𝕄 := iprop(tok c (Q 4) ∗ tok c (Q 5) ∗ tok c (Q 6) ∗ tok c (Q 10) ∗ tok c (Q 11) ∗ tok c (Q 12) ∗ tok c (Q 16) ∗ tok c (Q 17) ∗ tok c (Q 18))
def toksR (c : Dev nD) : sProp 𝕄 := iprop(tok c (Q 7) ∗ tok c (Q 8) ∗ tok c (Q 9) ∗ tok c (Q 19) ∗ tok c (Q 20) ∗ tok c (Q 21))
def toksL (c : Dev nD) : sProp 𝕄 := iprop(tok c (Q 13) ∗ tok c (Q 14) ∗ tok c (Q 15))
def mint (c : Dev nD) : sProp 𝕄 := bigSep Finset.univ fun j : Fin 20 => dutyTok ER (tokOf (c, j)).1 (tokOf (c, j)).2.1 (tokOf (c, j)).2.2

omit [FloatOps F] in
theorem mint_eq (c : Dev nD) : (mint c : sProp 𝕄) ⊢ iprop(btT c ∗ btF c ∗ toksO c ∗ toksR c ∗ toksL c) := by
  unfold mint
  rw [bigSep_univ_eq_bigSepL ([0, 1, 2, 3, 4, 5, 6, 7, 8, 9, 10, 11, 12, 13, 14, 15, 16, 17, 18, 19] : List (Fin 20)) (by decide) (by decide)]
  refine (show _ ⊢ (iprop(btF c ∗ tok c (Q 4) ∗ tok c (Q 5) ∗ tok c (Q 6) ∗ tok c (Q 7) ∗ tok c (Q 8) ∗ tok c (Q 9) ∗ tok c (Q 10) ∗ tok c (Q 11) ∗ tok c (Q 12) ∗ tok c (Q 13) ∗ tok c (Q 14) ∗ tok c (Q 15) ∗ tok c (Q 16) ∗ tok c (Q 17) ∗ tok c (Q 18) ∗ tok c (Q 19) ∗ tok c (Q 20) ∗ tok c (Q 21) ∗ btT c) : sProp 𝕄) from .rfl).trans ?_
  unfold toksO toksR toksL
  iintro ⟨HF, H4, H5, H6, H7, H8, H9, H10, H11, H12, H13, H14, H15, H16, H17, H18, H19, H20, H21, HT⟩
  isplitl [HT]; · iexact HT
  isplitl [HF]; · iexact HF
  isplitl [H4 H5 H6 H10 H11 H12 H16 H17 H18]
  · isplitl [H4]; · iexact H4
    isplitl [H5]; · iexact H5
    isplitl [H6]; · iexact H6
    isplitl [H10]; · iexact H10
    isplitl [H11]; · iexact H11
    isplitl [H12]; · iexact H12
    isplitl [H16]; · iexact H16
    isplitl [H17]; · iexact H17
    iexact H18
  isplitl [H7 H8 H9 H19 H20 H21]
  · isplitl [H7]; · iexact H7
    isplitl [H8]; · iexact H8
    isplitl [H9]; · iexact H9
    isplitl [H19]; · iexact H19
    isplitl [H20]; · iexact H20
    iexact H21
  isplitl [H13]; · iexact H13
  isplitl [H14]; · iexact H14
  iexact H15

omit [FloatOps F] in
/-- The tokens go to those who pay: one place around the ring, left or right. -/
theorem deal : (bigSep Finset.univ fun c : Dev nD => (mint c : sProp 𝕄)) ⊢ bigSep Finset.univ fun c : Dev nD => toksAll c := by
  refine (show _ ⊢ bigSep Finset.univ (fun c : Dev nD => (iprop(btT c ∗ btF c ∗ toksO c ∗ toksR c ∗ toksL c) : sProp 𝕄)) from bigSep_mono fun c _ => mint_eq c).trans ?_
  rw [show (toksAll : Dev nD → sProp 𝕄) = fun c => iprop((btT (sh c 3) ∗ btF (sh c 1)) ∗ toksO c ∗ toksR (sh c 1) ∗ toksL (sh c 3)) from rfl]
  simp only [bigSep_sep']
  rw [bigSep_univ_equiv ring.symm (fun c : Dev nD => (btT c : sProp 𝕄)), bigSep_univ_equiv ring (fun c : Dev nD => (btF c : sProp 𝕄)),
    bigSep_univ_equiv ring (fun c : Dev nD => (toksR c : sProp 𝕄)), bigSep_univ_equiv ring.symm (fun c : Dev nD => (toksL c : sProp 𝕄))]
  iintro ⟨H1, H2, H3, H4, H5⟩
  isplitl [H1 H2]
  · isplitl [H1]; · iexact H1
    iexact H2
  isplitl [H3]; · iexact H3
  isplitl [H4]; · iexact H4
  iexact H5

/-! ## The launch's ghost state, made into each device's share -/

/-- What the launch element deals a device. -/
def G (c : Dev nD) : sProp 𝕄 :=
  iprop((bigSep Finset.univ fun k : Fin 19 => roundState ER (rd m ρ) (kcell (c, k)) 0)
    ∗ (bigSep Finset.univ fun k : Fin 19 => iprop(atPos ER (kcell (c, k)) 0 ∅ 0 ∗ reached ER (kcell (c, k)) 0)) ∗ mint c)
/-- What never changes hands: a device's own places and the tokens it pays with. -/
def keeps (c : Dev nD) : sProp 𝕄 := iprop((atPos ER (barCell c) 0 ∅ 0 ∗ posAll c) ∗ toksAll c)
/-- A device's share. -/
def G' (c : Dev nD) : sProp 𝕄 := iprop(∃ K, records m ρ K ∗ keeps c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 19 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => mint c := by
    unfold allToks; rw [bigSep_map, bigSep_univ_prod]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄) = finAll c := by
  rw [Pipeline.ownSems0_eq_of_list c osem ([0, 1, 2, 3, 4, 5, 6, 7, 8, 9, 10, 11, 12, 13, 14, 15, 16, 17] : List (Fin 18)) (by decide) (by decide)]; rfl
set_option maxRecDepth 8000 in
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, bigSep_univ_eq_bigSepL ([0, 1, 2, 3, 4, 5, 6, 7, 8, 9, 10, 11, 12, 13, 14, 15, 16, 17, 18] : List (Fin 19)) (by decide) (by decide)]
  exact sep_comm.1.trans (show iprop(semVal (barCell c) 0 ∗ finAll c) ⊢ _ from .rfl)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ mint c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem places_eq (c : Dev nD) : (bigSep Finset.univ fun k : Fin 19 => (atPos ER (kcell (c, k)) 0 ∅ 0 : sProp 𝕄)) ⊢ iprop(atPos ER (barCell c) 0 ∅ 0 ∗ posAll c) := by
  rw [bigSep_univ_eq_bigSepL ([0, 1, 2, 3, 4, 5, 6, 7, 8, 9, 10, 11, 12, 13, 14, 15, 16, 17, 18] : List (Fin 19)) (by decide) (by decide)]
  exact .rfl

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ mint c) : sProp 𝕄)
      ⊢ bigSep Finset.univ (G' m ρ) := by
  rw [bigSep_sep', bigSep_sep', ← bigSep_univ_prod (fun ck : Dev nD × Fin 19 => iprop(∃ κ : ℕ, cellInv ER (rd m ρ) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (rd m ρ) κ (kcell ck) : sProp 𝕄))) $$ HI
  icases HK with ⟨%K, #HI⟩
  ihave Htk := (deal (F := F)) $$ Htok
  ihave Hat := (show _ ⊢ bigSep Finset.univ (fun c : Dev nD => (iprop(atPos ER (barCell c) 0 ∅ 0 ∗ posAll c) : sProp 𝕄)) from bigSep_mono fun c _ => places_eq (F := F) c) $$ Hat
  ihave Hkeep := (Entails.of_eq (bigSep_sep' Finset.univ (fun c : Dev nD => (iprop(atPos ER (barCell c) 0 ∅ 0 ∗ posAll c) : sProp 𝕄)) toksAll).symm) $$ [Hat Htk]
  · isplitl [Hat] <;> iassumption
  ihave #Hrec := (show iprop((bigSep Finset.univ fun ck : Dev nD × Fin 19 => cellInv ER (rd m ρ) (K ck) (kcell ck))
    ∗ bigSep Finset.univ fun ck : Dev nD × Fin 19 => reached ER (kcell ck) 0) ⊢ records m ρ K from .rfl) $$ []
  · isplitr; · iexact HI
    iexact HR
  ihave H := ((sep_mono_left (BI.bigSep_of_persistent Finset.univ (records m ρ K))).trans (Entails.of_eq (bigSep_sep' Finset.univ (fun _ : Dev nD => records m ρ K) fun c => keeps c).symm)) $$ [Hkeep]
  · isplitr; · iexact Hrec
    iexact Hkeep
  iapply (show bigSep Finset.univ (fun c : Dev nD => (iprop(records m ρ K ∗ keeps c) : sProp 𝕄)) ⊢ bigSep Finset.univ (G' m ρ) from bigSep_mono fun c _ => Laws.exists_intro (Φ := fun K => iprop(records m ρ K ∗ keeps c)) K)
  iexact H

/-- All devices at once: their semaphores and launch elements become their shares. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

omit [FloatOps F] in
/-- One due of every device, all to the same neighbour's same cell, is that much credit on every device. -/
theorem credit_step (n : ℕ) (sm : SemLoc sig) (j j' : ℕ) (k : ℕ) (h : ∀ d : Dev nD, (dues d).getD n (barCell d, 0) = ((((sh d j : Dev nD) : Thread nD τ), sm), k))
    (h1 : ∀ c : Dev nD, sh (sh c j') j = c) (h2 : ∀ c : Dev nD, sh (sh c j) j' = c) (c : Dev nD) :
    (Pipeline.launchCred (fun d => ow d (n + 1)) c : sProp 𝕄)
      ⊢ iprop(Pipeline.launchCred (fun d => ow d n) c ∗ cred (tallyAt ((c : Thread nD τ), sm) () k)) := by
  rw [show (fun d => ow d (n + 1)) = fun d => ow d n + tallyAt (((sh d j : Dev nD) : Thread nD τ), sm) () k from funext fun d => by rw [ow, h d],
    Pipeline.launchCred_add]
  exact sep_mono_right (Pipeline.launchCred_tallyAt sm (fun d => sh d j) (fun d => sh d j') h1 h2 () k c)

omit [FloatOps F] in
theorem creds (c : Dev nD) : (Pipeline.launchCred (fun d => ow d 11) c : sProp 𝕄) ⊢ crdAll c := by
  iintro H
  icases (credit_step (F := F) 10 (.reg barS) 3 1 1 (fun _ => rfl) sh_13 sh_31 c) $$ H with ⟨H, HC⟩
  icases (credit_step (F := F) 9 (.reg barS) 1 3 1 (fun _ => rfl) sh_31 sh_13 c) $$ H with ⟨H, HB⟩
  icases (credit_step (F := F) 8 (.dma (Q 19)) 1 3 (amt (Q 19).val) (fun _ => rfl) sh_31 sh_13 c) $$ H with ⟨H, H19⟩
  icases (credit_step (F := F) 7 (.dma (Q 7)) 1 3 (amt (Q 7).val) (fun _ => rfl) sh_31 sh_13 c) $$ H with ⟨H, H7⟩
  icases (credit_step (F := F) 6 (.dma (Q 13)) 3 1 (amt (Q 13).val) (fun _ => rfl) sh_13 sh_31 c) $$ H with ⟨H, H13⟩
  icases (credit_step (F := F) 5 (.dma (Q 8)) 1 3 (amt (Q 8).val) (fun _ => rfl) sh_31 sh_13 c) $$ H with ⟨H, H8⟩
  icases (credit_step (F := F) 4 (.dma (Q 14)) 3 1 (amt (Q 14).val) (fun _ => rfl) sh_13 sh_31 c) $$ H with ⟨H, H14⟩
  icases (credit_step (F := F) 3 (.dma (Q 20)) 1 3 (amt (Q 20).val) (fun _ => rfl) sh_31 sh_13 c) $$ H with ⟨H, H20⟩
  icases (credit_step (F := F) 2 (.dma (Q 9)) 1 3 (amt (Q 9).val) (fun _ => rfl) sh_31 sh_13 c) $$ H with ⟨H, H9⟩
  icases (credit_step (F := F) 1 (.dma (Q 15)) 3 1 (amt (Q 15).val) (fun _ => rfl) sh_13 sh_31 c) $$ H with ⟨H, H15⟩
  icases (credit_step (F := F) 0 (.dma (Q 21)) 1 3 (amt (Q 21).val) (fun _ => rfl) sh_31 sh_13 c) $$ H with ⟨H, H21⟩
  iclear H
  unfold crdAll crd
  isplitl [HB HC]
  · rw [show (2 : ℕ) = 1 + 1 from rfl, ← tallyAt_add]
    iapply (cred_add _ _).2
    isplitl [HB] <;> iassumption
  isplitl [H7]; · iexact H7
  isplitl [H8]; · iexact H8
  isplitl [H9]; · iexact H9
  isplitl [H13]; · iexact H13
  isplitl [H14]; · iexact H14
  isplitl [H15]; · iexact H15
  isplitl [H19]; · iexact H19
  isplitl [H20]; · iexact H20
  iexact H21

end Cert.Moe

end
-- ==== Proof.Launch.lean ====
/-
The launch: from the bodies to the run of the whole program, and what memory holds at its end.
-/
module

public import proofs.«01_k».proof.Proof.Deal
public import proofs.«01_k».proof.Proof.Gen.KernelIdeal.Points
public import Idealize.ShloMosaic.Lib.Pipeline.CollectiveSegs
public import Idealize.ShloMosaic.Lib.Pipeline.ValueKit.Geometry

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device enters the kernel with, besides its buffers. -/
def start (c : Dev nD) : sProp 𝕄 := iprop(G' m ρ c ∗ crdAll c ∗ levAts L lv)
def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def Φ₁ (c : Dev nD) : sProp 𝕄 :=
  iprop(semVal (barCell c) 0 ∗ finAll c ∗ (((c : Thread nD τ).loc cc0_scratch0) ↦{fullShare} wallC m ρ c) ∗ cAll m ρ c)

/-- The pipeline's proof data: the arrays as launched, and what the one grid point leaves in each staging buffer. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => istg m ρ c
    | ⟨2, _⟩ => estg m ρ c
    | ⟨3, _⟩ => outC m ρ c
  Φ t := match t with
    | ⟨0, _⟩ => Φ₀ m ρ c
    | ⟨_ + 1, _⟩ => Φ₁ m ρ c
  q _ := fullShare
  owed t := match t with
    | ⟨0, _⟩ => ow c 11
    | ⟨_ + 1, _⟩ => ow c 0

omit [FloatOps F] in
theorem owns_full (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre (c : Dev nD) : sProp 𝕄 :=
  iprop(Φ₀ m ρ c ∗ (dats m ρ 0 c).owesAt () (t0_0.castSucc)
    ∗ (∃ d, ∃ f : Buf (Elt F) ((c : Thread nD τ).loc cc0_stg0_0), ⌜f = (dats m ρ 0 c).before 0 t0_0 d⌝ ∗ (((c : Thread nD τ).loc cc0_stg0_0) ↦{fullShare} f))
    ∗ (∃ d, ∃ f : Buf (Elt F) ((c : Thread nD τ).loc cc0_stg1_0), ⌜f = (dats m ρ 0 c).before 1 t0_0 d⌝ ∗ (((c : Thread nD τ).loc cc0_stg1_0) ↦{fullShare} f))
    ∗ (∃ d, ∃ f : Buf (Elt F) ((c : Thread nD τ).loc cc0_stg2_0), ⌜f = (dats m ρ 0 c).before 2 t0_0 d⌝ ∗ (((c : Thread nD τ).loc cc0_stg2_0) ↦{fullShare} f))
    ∗ (∃ d, ∃ f : Buf (Elt F) ((c : Thread nD τ).loc cc0_stg3_0), ⌜f = (dats m ρ 0 c).before 3 t0_0 d⌝ ∗ (((c : Thread nD τ).loc cc0_stg3_0) ↦{fullShare} f)))
def bodyPost (c : Dev nD) : sProp 𝕄 :=
  iprop(Φ₁ m ρ c ∗ (dats m ρ 0 c).owesAt () (t0_0.succ)
    ∗ (∃ f : Buf (Elt F) ((c : Thread nD τ).loc cc0_stg0_0), ⌜f = xstg m ρ c⌝ ∗ (((c : Thread nD τ).loc cc0_stg0_0) ↦{fullShare} f))
    ∗ (∃ f : Buf (Elt F) ((c : Thread nD τ).loc cc0_stg1_0), ⌜f = istg m ρ c⌝ ∗ (((c : Thread nD τ).loc cc0_stg1_0) ↦{fullShare} f))
    ∗ (∃ f : Buf (Elt F) ((c : Thread nD τ).loc cc0_stg2_0), ⌜f = estg m ρ c⌝ ∗ (((c : Thread nD τ).loc cc0_stg2_0) ↦{fullShare} f))
    ∗ (∃ f : Buf (Elt F) ((c : Thread nD τ).loc cc0_stg3_0), ⌜f = outC m ρ c⌝ ∗ (((c : Thread nD τ).loc cc0_stg3_0) ↦{fullShare} f)))

theorem before0 (c : Dev nD) (d) : (dats m ρ 0 c).before 0 t0_0 d = xstg m ρ c := by unfold Dat.before; rw [if_pos (fetch0_0 t0_0)]; rfl
theorem before1 (c : Dev nD) (d) : (dats m ρ 0 c).before 1 t0_0 d = istg m ρ c := by unfold Dat.before; rw [if_pos (fetch0_1 t0_0)]; rfl
theorem before2 (c : Dev nD) (d) : (dats m ρ 0 c).before 2 t0_0 d = estg m ρ c := by unfold Dat.before; rw [if_pos (fetch0_2 t0_0)]; rfl

theorem body_done (c : Dev nD) : bodyOut m ρ c ⊢ bodyPost m ρ c := by
  unfold bodyOut bodyPost Φ₁ owed stgX stgI stgE outP Dat.owesAt Pipeline.owesWithin
  iintro ⟨⟨%W, HO⟩, Hb, Hf, Hw, Hc, Hx, Hi, He, Ho⟩
  isplitl [Hb Hf Hw Hc]
  · isplitl [Hb]; · iexact Hb
    isplitl [Hf]; · iexact Hf
    isplitl [Hw]; · iexact Hw
    iexact Hc
  isplitl [HO]
  · iexists W; isplitr; · ipureintro; exact fun _ _ => Or.inl trivial
    iexact HO
  isplitl [Hx]; · iexists xstg m ρ c; isplitr; · ipureintro; rfl
                  iexact Hx
  isplitl [Hi]; · iexists istg m ρ c; isplitr; · ipureintro; rfl
                  iexact Hi
  isplitl [He]; · iexists estg m ρ c; isplitr; · ipureintro; rfl
                  iexact He
  iexists outC m ρ c; isplitr; · ipureintro; rfl
  iexact Ho

theorem body_enter (c : Dev nD) : bodyPre m ρ c ⊢ iprop(∃ K, bodyIn m ρ K c) := by
  unfold bodyPre Φ₀ start G' keeps bodyIn env owed stgX stgI stgE outP Dat.owesAt Pipeline.owesWithin
  simp only [before0, before1, before2]
  iintro ⟨⟨⟨⟨%K, Hr, ⟨Hb, Hp⟩, Ht⟩, Hc, Hl⟩, Hw, Hn⟩, ⟨%W, %hW, HO⟩, ⟨%dx, %fx, %hx, Hx⟩, ⟨%di, %fi, %hi, Hi⟩, ⟨%de, %fe, %he, He⟩, ⟨%X, %fo, %ho, Ho⟩⟩
  subst hx; subst hi; subst he
  iexists K
  isplitl [Hr Hl]
  · isplitl [Hr] <;> iassumption
  isplitl [HO]; · iexists W; iexact HO
  isplitl [Hb]; · iexact Hb
  isplitl [Hp]; · iexact Hp
  isplitl [Ht]; · iexact Ht
  isplitl [Hc]; · iexact Hc
  isplitl [Hw]; · iexact Hw
  isplitl [Hn]; · iexact Hn
  isplitl [Hx]; · iexact Hx
  isplitl [Hi]; · iexact Hi
  isplitl [He]; · iexact He
  iexists fo; iexact Ho

set_option maxRecDepth 8000 in
theorem body_obligation (c : Dev nD) : BodyObligation (dats (F := F) m ρ 0 c) (defs₀ (F := F)) 𝒱₀ () Set.univ := fun t => by
  rw [fin_N0 t]
  have hW (Φ : Fin cfg0.W → sProp 𝕄) : bigSep Finset.univ Φ = iprop(Φ (0 : Fin 4) ∗ Φ (1 : Fin 4) ∗ Φ (2 : Fin 4) ∗ Φ (3 : Fin 4)) := bigSep_W0 Φ
  rw [hW, hW]
  simp only [owns_full]
  show bodyPre m ρ c ⊢ wp frame (wpE (defs₀ (F := F)) 𝒱₀ (c : Thread nD τ) none) Set.univ
    (cc0__body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scratch6 cc0_scratch7) (fun _ => bodyPost m ρ c)
  iintro H
  ihave H := (body_enter m ρ c) $$ H
  icases H with ⟨%K, H⟩
  iapply (sound_body m ρ K c fun _ => bodyPost m ρ c)
  isplitl [H]; · iexact H
  iintro H; iapply (body_done m ρ c); iexact H

/-! ## The launch's side conditions -/

theorem share_eq (c : Dev nD) (w : Fin cfg0.W) : (dats m ρ 0 c).share w = fullShare := by unfold Dat.share; split <;> rfl

/-- The argument no window stages, kept aside through the run. -/
def aside (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred (fun d => ow d 11) c ∗ prngReg c (ρ c) ∗ G' m ρ c)
      ⊢ |={Set.univ}=> iprop(start m ρ c ∗ aside m c) := by
  rw [Pipeline.unscopedRestP_none, unscopedRest0_eq]
  unfold start aside
  iintro ⟨Ha, Hlev, Hcr, -, HG⟩
  ihave Hc := (creds (F := F) c) $$ Hcr
  imodintro
  isplitr [Ha]
  · isplitl [HG]; · iexact HG
    isplitl [Hc]; · iexact Hc
    iexact Hlev
  iexact Ha

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hw, Hc⟩
  isplitl [Hs]; · iexact Hs
  isplitl [Hw] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ cAll
  iintro ⟨Hb, Hf, Hw, Hc⟩
  isplitl [Hb]; · iexact Hb
  isplitl [Hf]; · iexact Hf
  isplitl [Hw]; · iexists wallC m ρ c; iexact Hw
  iexists cntC m ρ; iexact Hc

theorem waits (c : Dev nD) : (levAts L lv : sProp 𝕄) ⊢ Pipeline.cellsWaits cfgs (dats m ρ) () 0 c :=
  Pipeline.cellsWaits_intro cfgs (dats m ρ) () 0 c fun w s t => by
    have h : ∀ k < 11, lvn 0 < dl k ∧ lvn 1 < dl k ∧ lvn 2 < dl k ∧ lvn 3 < dl k := by decide
    rcases t with ⟨_ | _, ht⟩
    · exact mayWait_dma c _ 11 (le_refl _) (by fin_cases w <;> fin_cases s; exacts [fun k hk => (h k hk).1, fun k hk => (h k hk).2.1, fun k hk => (h k hk).2.2.1, fun k hk => (h k hk).2.2.2])
    · exact mayWait_dma c _ 0 (by decide) (fun k hk => absurd hk (by omega))

/-! ## The run -/

/-- What memory holds at the end: each array what its window left, the unstaged argument as launched. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N)
    ∧ r.2.mem ((c : Thread nD τ).loc main_arg1) = m ((c : Thread nD τ).loc main_arg1)

set_option maxRecDepth 8000 in
theorem run_raw : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => block_pos0 w) (harr := arr_whole0) (hstage := stage_whole0) (hshare := share_eq m ρ)
    (hdistinct := winFacts0.arr_inj)
    (O₀ := fun c => ow c 11) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := aside m)
    (hX := start_intro m ρ) (hin := enter m ρ) (hout := leave m ρ)
    (QY := fun c s => s.mem ((c : Thread nD τ).loc main_arg1) = m ((c : Thread nD τ).loc main_arg1) ∧ ∀ sm : SemLoc sig, sm.isScoped .tc = false → s.sem ((c.tc : Thread nD τ), sm) = 0)
    (hY := fun c s' => by
      unfold aside
      iintro ⟨Hu, Hz, HSI⟩
      icombine HSI Hz gives %h
      imod (Pipeline.unscopedSems0_read (X := unscopedSems0 c) (c := c) fupd_intro s') $$ [Hu HSI] with ⟨%hs, HSI⟩
      · isplitl [Hu] <;> iassumption
      imodintro
      isplitr; · ipureintro; exact ⟨Buf.eq_of_forall_mem_univ h, hs⟩
      iexact HSI)
    (hQ := fun _ h hs => ⟨fun c => ⟨(h c).1, (h c).2.2.1⟩, sem_eq_zero hs fun c => (h c).2.2.2⟩)

theorem arr_out (c : Dev nD) : (dats m ρ 0 c).arrAt (3 : Fin 4) cfg0.N = outC m ρ c :=
  (dats m ρ 0 c).arrAt_eq_of_after_last (3 : Fin 4) t0_0 (by decide +kernel) (outC m ρ c) (fun j => rfl) (arr_whole0 3)

/-- The run: on every device the result array holds `outC`, the arguments are as launched, every counter is zero. -/
theorem run_main : θ_run defs (onTc (τ := τ) (main (F := F))) (s₀ m ρ) (fun r =>
    (∀ c : Dev nD, r.2.mem ((c : Thread nD τ).loc main_v1) = outC m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨((h.1 c).1 (3 : Fin 4)).trans (arr_out m ρ c),
    ((h.1 c).1 (0 : Fin 4)).trans ((dats m ρ 0 c).arrAt_in (0 : Fin 4) rfl _), (h.1 c).2,
    ((h.1 c).1 (1 : Fin 4)).trans ((dats m ρ 0 c).arrAt_in (1 : Fin 4) rfl _),
    ((h.1 c).1 (2 : Fin 4)).trans ((dats m ρ 0 c).arrAt_in (2 : Fin 4) rfl _)⟩, h.2⟩) (run_raw m ρ)

end Cert.Moe

end
-- ==== Proof.Equal.lean ====
/-
The kernel's result on device `c` is block `c` of the reference's.
-/
module

public import proofs.«01_k».proof.Defs
public import proofs.«01_k».proof.Proof.Accept
public import proofs.«01_k».proof.Proof.RefValue
public import proofs.«01_k».proof.Proof.Launch

@[expose] public section

noncomputable section

namespace Cert.Moe

open Cert.KernelIdeal Cert.KernelIdeal.Gen
open Idealize.ShloMosaic Idealize.ShloMosaic.TcCoe
open Idealize.SL.Sem

/-- The number, among all tokens, of device `c`'s token `i`. -/
def place (c : Dev nD) (i : Fin 2048) : Fin 8192 := ⟨c.val * 2048 + i.val, by have h : c.val < 4 := c.isLt; have := i.isLt; omega⟩

section
variable (m : (ℓ : Loc nD τ sig) → Buf (Elt Ideal) ℓ) (ρ : Dev nD → PrngReg) (V : Valuation Cert.ReferenceIdeal.τ Cert.ReferenceIdeal.sig (Elt Ideal))
  (hE : ∀ c i, tokE m c i = Plain.refE V (place c i))
  (hX : ∀ c i k, tokX m c i k = Plain.refX V (place c i) k)
  (hW : ∀ (v : Dev nD) (j : Fin 4) k h, tokW m v j k h = Plain.refW V (4 * v.val + j.val) k h)

include hE

/-- The count over all tokens, past device `r`'s first `n`. -/
theorem count_seen (r : Dev nD) (w : BitVec 32) (n : ℕ) (hn : n ≤ 2048) :
    Nat.count (fun J => Plain.flatE V J = w) (r.val * 2048 + n) = Nat.count (fun J => Plain.flatE V J = w) (r.val * 2048) + seen m r w n := by
  rw [Nat.count_add]
  congr 1
  unfold seen
  rw [Nat.count_eq_card_filter_range, Nat.count_eq_card_filter_range]
  congr 1
  refine Finset.filter_congr fun k hk => ?_
  have hk : k < n := Finset.mem_range.1 hk
  have hr : r.val < 4 := r.isLt
  have h1 : k < 2048 := by omega
  have h2 : r.val * 2048 + k < 8192 := by omega
  unfold rowE Plain.flatE
  rw [dif_pos h1, dif_pos h2, hE]
  rfl

/-- The kernel's and the reference's counts of earlier tokens are the same. -/
theorem ahead_eq (c : Dev nD) (i : Fin 2048) : ahead m c (tokE m c i) i.val = Plain.earlier V (place c i) := by
  have h : ∀ w, ahead m c w i.val = Nat.count (fun J => Plain.flatE V J = w) (c.val * 2048 + i.val) := by
    intro w
    rw [count_seen m V hE c w i.val i.isLt.le]
    unfold ahead
    congr 1
    have s0 := count_seen m V hE 0 w 2048 le_rfl
    have s1 := count_seen m V hE 1 w 2048 le_rfl
    have s2 := count_seen m V hE 2 w 2048 le_rfl
    rw [Fin.sum_univ_four]
    have e0 : Nat.count (fun J => Plain.flatE V J = w) ((0 : Dev nD).val * 2048) = 0 := Nat.count_zero _
    rw [e0] at s0
    change Nat.count _ 2048 = _ at s0
    change Nat.count _ 4096 = Nat.count _ 2048 + _ at s1
    change Nat.count _ 6144 = Nat.count _ 4096 + _ at s2
    have hc : c.val < 4 := c.isLt
    obtain h | h | h | h : c.val = 0 ∨ c.val = 1 ∨ c.val = 2 ∨ c.val = 3 := by omega
    · rw [h]
      simp
    · rw [h]
      show (if 0 < 1 then _ else 0) + (if 1 < 1 then _ else 0) + (if 2 < 1 then _ else 0) + (if 3 < 1 then _ else 0) = Nat.count _ 2048
      simp [s0]
    · rw [h]
      show (if 0 < 2 then _ else 0) + (if 1 < 2 then _ else 0) + (if 2 < 2 then _ else 0) + (if 3 < 2 then _ else 0) = Nat.count _ 4096
      simp [s0, s1]
    · rw [h]
      show (if 0 < 3 then _ else 0) + (if 1 < 3 then _ else 0) + (if 2 < 3 then _ else 0) + (if 3 < 3 then _ else 0) = Nat.count _ 6144
      simp [s0, s1, s2]
  rw [h, hE]
  rfl

include hX hW

/-- The kernel's result at a place is the reference's there. -/
theorem value (c : Dev nD) (i : Fin 2048) (h : Fin 1024) : (outC m ρ c (ix2 i h) : EReal) = Plain.result V (ix2 (place c i) h) := by
  refine (outC_at m ρ c i h).trans (Eq.trans ?_ (Plain.result_at V (place c i) h).symm)
  rw [acc_at, ahead_eq m V hE]
  by_cases hk : Plain.earlier V (place c i) < 409
  · by_cases hw : (tokE m c i).toNat < 128
    · rw [if_pos ⟨hw, hk⟩, mul_one]
      refine Finset.sum_congr rfl fun v _ => Finset.sum_congr rfl fun j _ => ?_
      unfold part Plain.plain
      simp only [hk, true_and, hE, hX, hW]
    · have hn : ¬((tokE m c i).toNat < 128 ∧ Plain.earlier V (place c i) < 409) := fun h => hw h.1
      rw [if_neg hn, mul_zero]
      refine (Finset.sum_eq_zero fun v _ => Finset.sum_eq_zero fun j _ => ?_).symm
      unfold Plain.plain
      refine if_neg fun h => hw ?_
      have hv : v.val < 4 := v.isLt
      have hj := j.isLt
      rw [hE, h.2, BitVec.toNat_ofNat]
      omega
  · have hn : ¬((tokE m c i).toNat < 128 ∧ Plain.earlier V (place c i) < 409) := fun h => hk h.2
    rw [if_neg hn, mul_zero]
    refine (Finset.sum_eq_zero fun v _ => Finset.sum_eq_zero fun j _ => ?_).symm
    unfold Plain.plain
    exact if_neg fun h => hk h.1

end

/-- From devices that hold their blocks of the whole arrays, every device ends with its block of the reference's result. -/
theorem algebraic : Cert.algebraic_KernelIdeal_ReferenceIdeal := by
  intro m g m' g' _ hagree
  have hE : ∀ c i, tokE m c i = Plain.refE (StableHlo.launchContents m' (0 : Dev Cert.ReferenceIdeal.nD)) (place c i) := by
    intro c i
    unfold tokE
    rw [show m ((c : Thread nD τ).loc main_arg2) = _ from (hagree c).2.2.1]
    show m' _ _ = m' _ _
    congr 1
    funext x
    match x with
    | ⟨0, _⟩ => rfl
    | ⟨1, _⟩ => rfl
  have hX : ∀ c i k, tokX m c i k = Plain.refX (StableHlo.launchContents m' (0 : Dev Cert.ReferenceIdeal.nD)) (place c i) k := by
    intro c i k
    unfold tokX
    rw [show m ((c : Thread nD τ).loc main_arg0) = _ from (hagree c).1]
    show m' _ _ = m' _ _
    congr 1
    funext x
    match x with
    | ⟨0, _⟩ => rfl
    | ⟨1, _⟩ => rfl
  have hW : ∀ (v : Dev nD) (j : Fin 4) k h, tokW m v j k h = Plain.refW (StableHlo.launchContents m' (0 : Dev Cert.ReferenceIdeal.nD)) (4 * v.val + j.val) k h := by
    intro v j k h
    unfold tokW
    rw [show m ((v : Thread nD τ).loc main_arg3) = _ from (hagree v).2.2.2]
    show m' _ _ = m' _ _
    congr 1
    funext x
    match x with
    | ⟨0, _⟩ =>
      have hv : v.val < 4 := v.isLt
      have hj := j.isLt
      exact Fin.ext (by show v.val * 4 + j.val = (4 * v.val + j.val) % 16; omega)
    | ⟨1, _⟩ => rfl
    | ⟨2, _⟩ => rfl
  refine ⟨Plain.result (StableHlo.launchContents m' (0 : Dev Cert.ReferenceIdeal.nD)), ?_, ?_⟩
  · refine (θ_run (defs (F := Ideal)) _ _).mono (fun _ h c => ⟨(h.1 c).1.trans ?_, (h.1 c).2⟩) (run_main (F := Ideal) m g)
    funext y
    have hy : y = ix2 (n0 := 2048) (n1 := 1024) (y 0) (y 1) := eq_ix2 y
    rw [hy]
    refine (value m g _ hE hX hW c (y 0) (y 1)).trans ?_
    show Plain.result _ _ = Plain.result _ _
    congr 1
    funext x
    match x with
    | ⟨0, _⟩ => rfl
    | ⟨1, _⟩ => rfl
  · exact (θ_run (Cert.ReferenceIdeal.defs (F := Ideal)) _ _).mono (fun _ h => h 0) (Plain.run_result (F := Ideal) m' g')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem

/-- The idealized kernel's frame: the run with its result forgotten. -/
theorem frame_ideal : Cert.quiescent_KernelIdeal := fun m ρ _ =>
  (θ_run Cert.KernelIdeal.defs _ _).mono (fun _ h => ⟨fun c => (h.1 c).2, h.2⟩) (Cert.Moe.run_main (F := Ideal) m ρ)

set_option maxRecDepth 8000 in
/-- The two programs run the same bodies. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | ⟨0, _⟩, (t, s) => rfl
theorem defs_eq : Cert.Kernel.defs (F := Bits) = Cert.KernelIdeal.defs (F := Bits) := congrArg (Pipeline.defs _) bodies_eq

set_option maxRecDepth 8000 in
/-- The kernel's frame: the same run at the machine's words, the two programs having the same text. -/
theorem frame_kernel : Cert.quiescent_Kernel := fun m ρ _ => by
  rw [defs_eq]
  exact (θ_run (Cert.KernelIdeal.defs (F := Bits)) (onTc Cert.KernelIdeal.main) ⟨m, fun _ => 0, ρ⟩).mono
    (fun _ h => ⟨fun c => (h.1 c).2, h.2⟩) (Cert.Moe.run_main (F := Bits) m ρ)

/-- The reference's frame: its run, on a device with no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  frame_kernel, frame_ideal, frame_reference, trivial, Cert.Moe.algebraic⟩

end Cert.Proof

end
